-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_eight_apart [hPre_top_eight_apart : Cert.Pre_top_eight_apart.Facts] (m : (ℓ : Loc Cert.KernelIdeal.nD Cert.KernelIdeal.τ Cert.KernelIdeal.sig) → Buf (Elt Ideal) ℓ) : Prop :=
  ∀ c : Dev Cert.KernelIdeal.nD,
    (Cert.Pre_top_eight_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_eight_apart [hPre_top_eight_apart : Cert.Pre_top_eight_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_eight_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_top_eight_apart [hKernelIdeal : Cert.KernelIdeal.Facts] [hPre_top_eight_apart : Cert.Pre_top_eight_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_eight_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_eight_apart [hReferenceIdeal : Cert.ReferenceIdeal.Facts] [hPre_top_eight_apart : Cert.Pre_top_eight_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_eight_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_top_eight_apart [hKernelIdeal : Cert.KernelIdeal.Facts] [hReferenceIdeal : Cert.ReferenceIdeal.Facts] [hPre_top_eight_apart : Cert.Pre_top_eight_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_eight_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_eight_apart : Cert.Pre_top_eight_apart.Facts),
    quiescent_Kernel (hKernel := hKernel)
    ∧ quiescent_KernelIdeal (hKernelIdeal := hKernelIdeal)
    ∧ quiescent_KernelIdeal_pre_top_eight_apart (hKernelIdeal := hKernelIdeal) (hPre_top_eight_apart := hPre_top_eight_apart)
    ∧ quiescent_ReferenceIdeal (hReferenceIdeal := hReferenceIdeal)
    ∧ quiescent_ReferenceIdeal_pre_top_eight_apart (hReferenceIdeal := hReferenceIdeal) (hPre_top_eight_apart := hPre_top_eight_apart)
    ∧ preserves_Kernel_KernelIdeal
    ∧ algebraic_KernelIdeal_ReferenceIdeal_pre_top_eight_apart (hKernelIdeal := hKernelIdeal) (hReferenceIdeal := hReferenceIdeal) (hPre_top_eight_apart := hPre_top_eight_apart)
-- ==== Pre_top_eight_apart.lean ====
abbrev S4x4096x4096 : Shape := ⟨3, ![4, 4096, 4096]⟩
abbrev S64x4096 : Shape := ⟨2, ![64, 4096]⟩
abbrev S4x4096x64 : Shape := ⟨3, ![4, 4096, 64]⟩
abbrev S4x4096x8 : Shape := ⟨3, ![4, 4096, 8]⟩
abbrev S4x4096x7 : Shape := ⟨3, ![4, 4096, 7]⟩
abbrev S_ : Shape := ⟨0, ![]⟩

class Facts : Prop where
  sliceFits_S4x4096x64_S4x4096x8 : S4x4096x64.Slices (fun _ => 0) S4x4096x8
  slices_S4x4096x8_S4x4096x7_0_0_0 : S4x4096x8.Slices ![0, 0, 0] S4x4096x7
  slices_S4x4096x8_S4x4096x7_0_0_1 : S4x4096x8.Slices ![0, 0, 1] S4x4096x7
  bcast_S_S4x4096x7 : S_.BroadcastsInDim S4x4096x7 (![] : Fin 0 → Fin S4x4096x7.rank)
  dot_S4x4096x4096_S64x4096_S4x4096x64_2_1_01_0_n_n_wf : DotDims.WF S4x4096x4096 S64x4096 S4x4096x64 [2] [1] [0, 1] [0] [] []

variable [Facts]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf
def fn {F : FTy → Type} [FloatOps F] (main_arg0 : FVec F S4x4096x4096 .f32) (main_arg1 : FVec F S64x4096 .f32) : IVec S4x4096x7 1 :=
  let main_v0 : FVec F S4x4096x64 .f32 := (fun l r => Host.dotGeneral dot_S4x4096x4096_S64x4096_S4x4096x64_2_1_01_0_n_n none l r) main_arg0 main_arg1
  let main_values : FVec F S4x4096x8 .f32 := (fun x => (Host.topK S4x4096x8 2 (FloatOps.cmpfTotal .gt) x sliceFits_S4x4096x64_S4x4096x8).1) main_v0
  let main_indices : IVec S4x4096x8 32 := (fun x => (Host.topK S4x4096x8 2 (FloatOps.cmpfTotal .gt) x sliceFits_S4x4096x64_S4x4096x8).2) main_v0
  let main_v1 : FVec F S4x4096x7 .f32 := (extractStridedSlice S4x4096x7 ![0, 0, 0] · slices_S4x4096x8_S4x4096x7_0_0_0) main_values
  let main_v2 : FVec F S4x4096x7 .f32 := (extractStridedSlice S4x4096x7 ![0, 0, 1] · slices_S4x4096x8_S4x4096x7_0_0_1) main_values
  let main_v3 : IVec S4x4096x7 1 := cmpf .ogt main_v1 main_v2
  let main_v4 : FVec F S4x4096x7 .f32 := (extractStridedSlice S4x4096x7 ![0, 0, 1] · slices_S4x4096x8_S4x4096x7_0_0_1) main_values
  let main_cst : FVec F S_ .f32 := constant S_ .f32 0xFF800000#32
  let main_v5 : FVec F S4x4096x7 .f32 := broadcastInDim S4x4096x7 ![] bcast_S_S4x4096x7 main_cst
  let main_v6 : IVec S4x4096x7 1 := cmpf .ogt main_v4 main_v5
  let main_v7 : IVec S4x4096x7 1 := andi main_v3 main_v6
  main_v7
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x8 : Shape := ⟨2, ![16384, 8]⟩
abbrev S1x1 : Shape := ⟨2, ![1, 1]⟩
abbrev S1024x8 : Shape := ⟨2, ![1024, 8]⟩
abbrev S3x1024x4096 : Shape := ⟨3, ![3, 1024, 4096]⟩
abbrev S2x1024x64 : Shape := ⟨3, ![2, 1024, 64]⟩
abbrev S1x64 : Shape := ⟨2, ![1, 64]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S1024x64 : Shape := ⟨2, ![1024, 64]⟩
abbrev S1x1024x64 : Shape := ⟨3, ![1, 1024, 64]⟩
abbrev S1024 : Shape := ⟨1, ![1024]⟩
abbrev S1024x1 : Shape := ⟨2, ![1024, 1]⟩
abbrev S64 : Shape := ⟨1, ![64]⟩
abbrev S1x1x64 : Shape := ⟨3, ![1, 1, 64]⟩
abbrev S1x1x1 : Shape := ⟨3, ![1, 1, 1]⟩
abbrev S4x4096x8 : Shape := ⟨3, ![4, 4096, 8]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S4096x64, .f32⟩
  | .hbm, ⟨4, _⟩ => ⟨S16384x8, .i32⟩
  | .hbm, ⟨5, _⟩ => ⟨S16384x8, .f32⟩
  | .hbm, ⟨6, _⟩ => ⟨S1x1, .f32⟩
  | .hbm, ⟨7, _⟩ => ⟨S4x4096x8, .i32⟩
  | .hbm, ⟨8, _⟩ => ⟨S4x4096x8, .f32⟩
  | .hbm, ⟨9, _⟩ => ⟨S_, .f32⟩
  | .local _ .vmem, ⟨0, _⟩ => ⟨S4096x64, .f32⟩
  | .local _ .vmem, ⟨1, _⟩ => ⟨S1024x8, .i32⟩
  | .local _ .vmem, ⟨2, _⟩ => ⟨S1024x8, .i32⟩
  | .local _ .vmem, ⟨3, _⟩ => ⟨S1024x8, .f32⟩
  | .local _ .vmem, ⟨4, _⟩ => ⟨S1024x8, .f32⟩
  | .local _ .vmem, ⟨5, _⟩ => ⟨S1x1, .f32⟩
  | .local _ .vmem, ⟨6, _⟩ => ⟨S3x1024x4096, .f32⟩
  | .local _ .vmem, ⟨7, _⟩ => ⟨S2x1024x64, .f32⟩
  | .local _ .vmem, ⟨8, _⟩ => ⟨S1x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (c0_i32_10 : BitVec 32) : Fin 1 → Nat :=
  let c3_i32 : BitVec 32 := 3#32
  let v19 : BitVec 32 := Scalar.remsi c0_i32_10 c3_i32
  ![v19.toNat]
def k0_off2 (c0_i32_10 : BitVec 32) : Fin 3 → Nat :=
  let c3_i32 : BitVec 32 := 3#32
  let v19 : BitVec 32 := Scalar.remsi c0_i32_10 c3_i32
  let c0_i32_11 : BitVec 32 := 0#32
  let c0_i32_12 : BitVec 32 := 0#32
  ![v19.toNat, 0, 0]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let c2_i32_2 : BitVec 32 := 2#32
  let v5 : BitVec 32 := Scalar.addi arg0 c2_i32_2
  let c16_i32 : BitVec 32 := 16#32
  let v6 : BitVec 1 := Scalar.cmpi .slt v5 c16_i32
  let v7 : BitVec 1 := Scalar.andi v4 v6
  let v8 : BitVec 32 := Scalar.extui v7
  let c0_i32_3 : BitVec 32 := 0#32
  let v9 : BitVec 1 := Scalar.cmpi .ne v8 c0_i32_3
  v9

def k0_off3 (i : grid0.Coords) : Fin 1 → Nat :=
  let arg0 : BitVec 32 := BitVec.ofNat 32 (i 0).val
  let c2_i32_10 : BitVec 32 := 2#32
  let v19 : BitVec 32 := Scalar.addi arg0 c2_i32_10
  let c3_i32 : BitVec 32 := 3#32
  let v20 : BitVec 32 := Scalar.remsi v19 c3_i32
  ![v20.toNat]
def k0_off4 (i : grid0.Coords) : Fin 3 → Nat :=
  let arg0 : BitVec 32 := BitVec.ofNat 32 (i 0).val
  let c2_i32_10 : BitVec 32 := 2#32
  let v19 : BitVec 32 := Scalar.addi arg0 c2_i32_10
  let c3_i32 : BitVec 32 := 3#32
  let v20 : BitVec 32 := Scalar.remsi v19 c3_i32
  let c0_i32_11 : BitVec 32 := 0#32
  let c0_i32_12 : BitVec 32 := 0#32
  ![v20.toNat, 0, 0]
def k0_off5 (i : grid0.Coords) : Fin 2 → Nat :=
  let arg0 : BitVec 32 := BitVec.ofNat 32 (i 0).val
  let c2_i32_10 : BitVec 32 := 2#32
  let v19 : BitVec 32 := Scalar.addi arg0 c2_i32_10
  let c1024_i32 : BitVec 32 := 1024#32
  let v21 : BitVec 32 := Scalar.muli v19 c1024_i32
  let c0_i32_13 : BitVec 32 := 0#32
  ![v21.toNat, 0]
def k0_cond3 (i : grid0.Coords) : BitVec 1 :=
  let arg0 : BitVec 32 := BitVec.ofNat 32 (i 0).val
  let c16_i32_4 : BitVec 32 := 16#32
  let v10 : BitVec 1 := Scalar.cmpi .slt arg0 c16_i32_4
  let v11 : BitVec 32 := Scalar.extui v10
  let c0_i32_5 : BitVec 32 := 0#32
  let v12 : BitVec 1 := Scalar.cmpi .ne v11 c0_i32_5
  v12

def k0_off6 (i : grid0.Coords) : Fin 1 → Nat :=
  let arg0 : BitVec 32 := BitVec.ofNat 32 (i 0).val
  let c3_i32 : BitVec 32 := 3#32
  let v19 : BitVec 32 := Scalar.remsi arg0 c3_i32
  ![v19.toNat]
def k0_off7 (i : grid0.Coords) : Fin 3 → Nat :=
  let arg0 : BitVec 32 := BitVec.ofNat 32 (i 0).val
  let c3_i32 : BitVec 32 := 3#32
  let v19 : BitVec 32 := Scalar.remsi arg0 c3_i32
  let c0_i32_10 : BitVec 32 := 0#32
  let c0_i32_11 : BitVec 32 := 0#32
  ![v19.toNat, 0, 0]
def k0_off8 (i : grid0.Coords) : Fin 2 → Nat :=
  let arg0 : BitVec 32 := BitVec.ofNat 32 (i 0).val
  let c1024_i32 : BitVec 32 := 1024#32
  let v20 : BitVec 32 := Scalar.muli arg0 c1024_i32
  let c0_i32_12 : BitVec 32 := 0#32
  ![v20.toNat, 0]
def k0_off9 (i : grid0.Coords) : Fin 3 → Nat :=
  let arg0 : BitVec 32 := BitVec.ofNat 32 (i 0).val
  let c3_i32_13 : BitVec 32 := 3#32
  let v26 : BitVec 32 := Scalar.remsi arg0 c3_i32_13
  let v27 : Index := Scalar.indexCast v26
  let c0 : Index := 0#32
  let c0_14 : Index := 0#32
  ![v27.toNat, 0, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v33 : Index := Scalar.indexCast v0
  let c0_17 : Index := 0#32
  let c0_18 : Index := 0#32
  ![v33.toNat, 0, 0]
def k0_cond4 (i : grid0.Coords) : BitVec 1 :=
  let arg0 : BitVec 32 := BitVec.ofNat 32 (i 0).val
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .ne v14 c0_i32_7
  v15

def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v19 : BitVec 32 := Scalar.subi c1_i32 v0
  let v20 : Index := Scalar.indexCast v19
  let c0 : Index := 0#32
  let c0_10 : Index := 0#32
  ![v20.toNat, 0, 0]
def k0_cond6 (i : grid0.Coords) : BitVec 1 :=
  let arg0 : BitVec 32 := BitVec.ofNat 32 (i 0).val
  let c16_i32_8 : BitVec 32 := 16#32
  let v16 : BitVec 1 := Scalar.cmpi .eq arg0 c16_i32_8
  let v17 : BitVec 32 := Scalar.extui v16
  let c0_i32_9 : BitVec 32 := 0#32
  let v18 : BitVec 1 := Scalar.cmpi .ne v17 c0_i32_9
  v18

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S4x4096x8 : Shape := ⟨3, ![4, 4096, 8]⟩
abbrev S_ : Shape := ⟨0, ![]⟩
abbrev S4x4096 : Shape := ⟨2, ![4, 4096]⟩
abbrev S4x4096x1 : Shape := ⟨3, ![4, 4096, 1]⟩
abbrev S64 : Shape := ⟨1, ![64]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x4096x64, .f32⟩
  | .hbm, ⟨3, _⟩ => ⟨S4x4096x8, .f32⟩
  | .hbm, ⟨4, _⟩ => ⟨S4x4096x8, .i32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x8, .f32⟩
  | .hbm, ⟨12, _⟩ => ⟨S4x4096x8, .f32⟩
  | .hbm, ⟨13, _⟩ => ⟨S4x4096x8, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x8, .f32⟩
  | .hbm, ⟨18, _⟩ => ⟨S4x4096x8, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x64, .f32⟩
  | .hbm, ⟨32, _⟩ => ⟨S4x4096x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S_, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Ideal.Ring.lean ====
/- The names the router's run is stated over: the whole buffers the body holds, the branch conditions in closed form,
   and the three-slot ring through which the token matrix is streamed two blocks ahead. -/
module

public import proofs.«01_k».proof.Proof.Gen.KernelIdeal.Frame
public import proofs.«01_k».proof.Proof.Gen.KernelIdeal.Skeleton

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The branch conditions over the points -/

/-- The three first transfers are started here. -/
abbrev primes (i : grid0.Coords) : Prop := k0_cond1 i = 1#1
/-- A transfer two blocks ahead is started here. -/
abbrev ahead (i : grid0.Coords) : Prop := k0_cond2 i = 1#1
/-- A block is waited for and multiplied here. -/
abbrev feeds (i : grid0.Coords) : Prop := k0_cond3 i = 1#1
/-- The block before is routed here. -/
abbrev routes (i : grid0.Coords) : Prop := k0_cond4 i = 1#1
/-- The usage sums are cleared here. -/
abbrev clears (i : grid0.Coords) : Prop :=
  Scalar.cmpi .ne (Scalar.extui (Scalar.cmpi .eq (BitVec.ofNat 32 (i 0).val) 1#32) : BitVec 32) 0#32 = 1#1
/-- The loss is written here. -/
abbrev closes (i : grid0.Coords) : Prop := k0_cond6 i = 1#1

/-- The first transfers start at point 0 only. -/
theorem primes_iff : ∀ t : Fin cfg0.N, primes (grid0.coords t) ↔ t.val = 0 :=
  (by decide +kernel : ∀ t : Fin grid0.N, primes (grid0.coords t) ↔ t.val = 0)
/-- A later transfer starts at points 1 to 13. -/
theorem ahead_iff : ∀ t : Fin cfg0.N, ahead (grid0.coords t) ↔ 1 ≤ t.val ∧ t.val ≤ 13 :=
  (by decide +kernel : ∀ t : Fin grid0.N, ahead (grid0.coords t) ↔ 1 ≤ t.val ∧ t.val ≤ 13)
/-- A block is multiplied at points 0 to 15. -/
theorem feeds_iff : ∀ t : Fin cfg0.N, feeds (grid0.coords t) ↔ t.val ≤ 15 :=
  (by decide +kernel : ∀ t : Fin grid0.N, feeds (grid0.coords t) ↔ t.val ≤ 15)
/-- A block is routed at points 1 to 16. -/
theorem routes_iff : ∀ t : Fin cfg0.N, routes (grid0.coords t) ↔ 1 ≤ t.val :=
  (by decide +kernel : ∀ t : Fin grid0.N, routes (grid0.coords t) ↔ 1 ≤ t.val)
/-- The usage sums are cleared at point 1 only. -/
theorem clears_iff : ∀ t : Fin cfg0.N, clears (grid0.coords t) ↔ t.val = 1 :=
  (by decide +kernel : ∀ t : Fin grid0.N, clears (grid0.coords t) ↔ t.val = 1)
/-- The loss is written at point 16 only. -/
theorem closes_iff : ∀ t : Fin cfg0.N, closes (grid0.coords t) ↔ t.val = 16 :=
  (by decide +kernel : ∀ t : Fin grid0.N, closes (grid0.coords t) ↔ t.val = 16)

instance : NeZero grid0.N := ⟨by rw [N_0]; decide⟩

/-! ## The buffers -/

/-- The token matrix, left where it is and read by the body's own transfers. -/
abbrev xM : Memref sig .tc .hbm S16384x4096 .f32 := Memref.whole main_v0
/-- The three slots of the ring. -/
abbrev ringM : Memref sig .tc .vmem S3x1024x4096 .f32 := Memref.whole cc0_scratch0
/-- The two slots of the logits. -/
abbrev logM : Memref sig .tc .vmem S2x1024x64 .f32 := Memref.whole cc0_scratch1
/-- The usage sums. -/
abbrev useM : Memref sig .tc .vmem S1x64 .f32 := Memref.whole cc0_scratch2
/-- Each window's staging memref at a point, and its wholeness. -/
abbrev wtM (t : Fin cfg0.N) : Memref sig .tc .vmem S4096x64 .f32 := win0_0.stage (cfg0.slots t 0)
abbrev wtH (t : Fin cfg0.N) : (wtM t).IsWhole := hstage0_0 ((cfg0.slots t 0).cast nbuf0_0)
abbrev idxM (t : Fin cfg0.N) : Memref sig .tc .vmem S1024x8 .i32 := win0_1.stage (cfg0.slots t 1)
abbrev idxH (t : Fin cfg0.N) : (idxM t).IsWhole := hstage0_1 ((cfg0.slots t 1).cast nbuf0_1)
abbrev wgtM (t : Fin cfg0.N) : Memref sig .tc .vmem S1024x8 .f32 := win0_2.stage (cfg0.slots t 2)
abbrev wgtH (t : Fin cfg0.N) : (wgtM t).IsWhole := hstage0_2 ((cfg0.slots t 2).cast nbuf0_2)
abbrev auxM (t : Fin cfg0.N) : Memref sig .tc .vmem S1x1 .f32 := win0_3.stage (cfg0.slots t 3)
abbrev auxH (t : Fin cfg0.N) : (auxM t).IsWhole := hstage0_3 ((cfg0.slots t 3).cast nbuf0_3)

/-- A memref's buffer contents on core `c`, and the buffer held whole at them. -/
abbrev Held (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : Held (F := F) c M) : sProp 𝕄 :=
  M.view.loc (c : Thread nD τ) ↦{fullShare} f

/-! ## What the launch hands the body -/

/-- The body's own transfer counters. -/
abbrev ownCell : Fin 3 → SemLoc sig := fun j => (![SemLoc.dma 6, SemLoc.dma 7, SemLoc.dma 8] : Fin 3 → SemLoc sig) j
theorem ownCell_facts : Pipeline.OwnSemFacts spec0 ownCell := by decide
/-- Those counters at zero, one by one. -/
theorem ownCell_eq (c : Dev nD) :
    (Pipeline.ownSems0 (Ix := Unit) (Name := ℕ) (U := Pipeline.UD sig nD τ) (Lvl := ℕ) (Val := Elt F) (τ := τ) ownCell c : sProp 𝕄)
      = iprop(semVal ((c : Thread nD τ), SemLoc.dma 6) 0 ∗ semVal ((c : Thread nD τ), SemLoc.dma 7) 0 ∗ semVal ((c : Thread nD τ), SemLoc.dma 8) 0) := by
  rw [Pipeline.ownSems0_eq_of_list c ownCell [0, 1, 2] (by decide) (by decide)]; rfl
/-- The one array the body moves itself. -/
def moved : Finset (Ref sig .tc) := {main_v0}
theorem moved_sub : moved ⊆ Pipeline.restRefs sig spec0 := by decide
/-- No line after the region touches that array. -/
theorem later_but : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut Pipeline.Prefetch.none spec0 moved op ((List.forall_iff_forall_mem.mp hostOps1_sub) op hop) (fun j => j.elim0) ?_
  simp only [hostOps1, List.mem_cons, List.mem_nil_iff, or_false] at hop
  rcases hop with rfl | rfl | rfl
  all_goals intro b hb; simp only [moved, Finset.mem_insert, Finset.mem_singleton] at hb
  all_goals subst hb
  all_goals simp only [StableHlo.reshape_bufs, Finset.mem_insert, Finset.mem_singleton, not_or]
  all_goals and_intros
  all_goals exact StableHlo.devRef_ne_of_ne (by decide)
/-- The moved array at its contents, alone. -/
theorem moved_eq (c : Dev nD) :
    (bigSep moved (fun b => ((c : Thread nD τ).loc b) ↦{fullShare} V m c b) : sProp 𝕄) = heldAt c xM (V m c main_v0) := by
  rw [BI.bigSep_eq_bigSepL_of_eq [main_v0] (by decide) (by decide)]; rfl

/-- The launch's share of the invariant, piece by piece. -/
theorem handed_eq (c : Dev nD) :
    (Pipeline.ΦD ownCell spec0 moved (V m) c : sProp 𝕄)
      = iprop(iprop((∃ d, owns (c : Thread nD τ) ringM fullShare d) ∗ (∃ d, owns (c : Thread nD τ) logM fullShare d) ∗ (∃ d, owns (c : Thread nD τ) useM fullShare d))
          ∗ (∃ r, prngReg c r) ∗ iprop(semVal ((c : Thread nD τ), SemLoc.dma 6) 0 ∗ semVal ((c : Thread nD τ), SemLoc.dma 7) 0 ∗ semVal ((c : Thread nD τ), SemLoc.dma 8) 0)
          ∗ heldAt c xM (V m c main_v0)) := by
  rw [Pipeline.ΦD_eq, scopedRest0_eq, ownCell_eq, moved_eq]; simp only [ringM, logM, useM, owns_whole]; try rfl

/-! ## The ring -/

theorem slot_inb (s : Fin 3) : ∀ a, (![s.val, 0, 0] : Fin 3 → Nat) a + S1x1024x4096.size a ≤ S3x1024x4096.size a := by
  have := s.isLt; intro a; fin_cases a <;> simp <;> omega
theorem block_inb (b : Fin 16) : ∀ a, (![1024 * b.val, 0] : Fin 2 → Nat) a + S1024x4096.size a ≤ S16384x4096.size a := by
  have := b.isLt; intro a; fin_cases a <;> simp <;> omega
theorem cell_inb (s : Fin 3) : ∀ a, (![s.val] : Fin 1 → Nat) a + S1.size a ≤ S3.size a := by
  have := s.isLt; intro a; fin_cases a <;> simp <;> omega
/-- Slot `s`. -/
def slotM (s : Fin 3) : Memref sig .tc .vmem S1024x4096 .f32 :=
  (ringM.slice (Rect.unit (s := S3x1024x4096) ![s.val, 0, 0] S1x1024x4096.size (slot_inb s)) (fun _ => rfl)).squeeze S1024x4096 squeezes_S1x1024x4096_S1024x4096
/-- Block `b` of the tokens. -/
def blockM (b : Fin 16) : Memref sig .tc .hbm S1024x4096 .f32 :=
  xM.slice (Rect.unit (s := S16384x4096) ![1024 * b.val, 0] S1024x4096.size (block_inb b)) (fun _ => rfl)
/-- The counter of slot `s`. -/
def cellM (s : Fin 3) : DmaSems sig S_ := (cc0_scratch3.slice (Rect.unit (s := S3) ![s.val] S1.size (cell_inb s))).squeeze S_ squeezes_S1_S_
abbrev cellR (s : Fin 3) : SemLoc sig := SemLoc.dma (cellM s).sem
theorem cellR_0 : cellR 0 = SemLoc.dma 6 := by decide
theorem cellR_1 : cellR 1 = SemLoc.dma 7 := by decide
theorem cellR_2 : cellR 2 = SemLoc.dma 8 := by decide

section Families
variable (c : Dev nD) (W : Held (F := F) c xM)
/-- Each slot has a share of the token matrix of its own to lend from. -/
abbrev lent (s : Fin 3) : PosShare TreeShare := if s.val = 0 then fullShare.left else if s.val = 1 then fullShare.right.left else fullShare.right.right
/-- Slot `s` at contents `f`. -/
abbrev slotAt (s : Fin 3) (f : Held (F := F) c (slotM s)) : sProp 𝕄 := (slotM s).view.loc (c : Thread nD τ) ↦[(slotM s).view.set]{fullShare} f
/-- Its counter at zero. -/
abbrev cellAt (s : Fin 3) : sProp 𝕄 := semVal ((c : Thread nD τ), cellR s) 0
/-- Block `b` in the share of slot `s`, the rest of that share, and the share whole. -/
abbrev partAt (s : Fin 3) (b : Fin 16) : sProp 𝕄 := (blockM b).view.loc (c : Thread nD τ) ↦[(blockM b).view.set]{lent s} W
def otherAt (s : Fin 3) (b : Fin 16) : sProp 𝕄 := ((c : Thread nD τ).loc main_v0) ↦[Finset.univ \ (blockM b).view.set]{lent s} W
abbrev shareAt (s : Fin 3) : sProp 𝕄 := ((c : Thread nD τ).loc main_v0) ↦[Finset.univ]{lent s} W
/-- Slot `s` once block `b` has landed over `f`. -/
abbrev landed (s : Fin 3) (b : Fin 16) (f : Held (F := F) c (slotM s)) : Held (F := F) c (slotM s) :=
  (slotM s).view.writes (Elt F) f [⟨Rect.whole S1024x4096, ReadAs.same.apply ((blockM b).view.read (Elt F) W)⟩]
/-- Block `b` on its way into slot `s`. -/
abbrev flightAt (s : Fin 3) (b : Fin 16) (f : Held (F := F) c (slotM s)) : sProp 𝕄 :=
  Transfers.Flight countersEmb (c : Thread nD τ) (cellR s) default ((slotM s).view.amount (cellR s))
    iprop(slotAt c s (landed c W s b f) ∗ partAt c W s b)
/-- The ring's two families: a resting slot keeps its share whole, a flight keeps the rest of the share it lends from. -/
abbrev restingAt (s : Fin 3) (f : Held (F := F) c (slotM s)) : sProp 𝕄 := iprop(slotAt c s f ∗ shareAt c W s)
abbrev movingAt (s : Fin 3) (b : Fin 16) (f : Held (F := F) c (slotM s)) : sProp 𝕄 := iprop(flightAt c W s b f ∗ otherAt c W s b)
abbrev noHome (b : Fin 16) : sProp 𝕄 := iprop(emp)
/-- The ring before step `k`. -/
def ringBefore (k : ℕ) : sProp 𝕄 :=
  if k = 0 then Ring.At₀ (cellAt c) (restingAt c W) noHome
  else Ring.At 2 (cellAt c) (restingAt c W) noHome (movingAt c W) k
omit [FloatOps F] in
theorem cellAt_0 : cellAt (F := F) c 0 = semVal ((c : Thread nD τ), SemLoc.dma 6) 0 := congrArg (fun x => (semVal ((c : Thread nD τ), x) 0 : sProp 𝕄)) cellR_0
omit [FloatOps F] in
theorem cellAt_1 : cellAt (F := F) c 1 = semVal ((c : Thread nD τ), SemLoc.dma 7) 0 := congrArg (fun x => (semVal ((c : Thread nD τ), x) 0 : sProp 𝕄)) cellR_1
omit [FloatOps F] in
theorem cellAt_2 : cellAt (F := F) c 2 = semVal ((c : Thread nD τ), SemLoc.dma 8) 0 := congrArg (fun x => (semVal ((c : Thread nD τ), x) 0 : sProp 𝕄)) cellR_2
end Families

/-! ### The slots lie apart and fill the scratch -/

abbrev slotBox (s : Fin 3) : Finset S3x1024x4096.Idx := (Rect.unit (s := S3x1024x4096) ![s.val, 0, 0] S1x1024x4096.size (slot_inb s)).set
theorem slotBox_eq (s : Fin 3) : (slotM s).view.set = slotBox s := by
  simp only [slotM, Memref.view_squeeze, View.set_reshape]; exact View.set_slice_whole _ _
theorem slotBox_apart (s s' : Fin 3) (h : s ≠ s') : Disjoint (slotBox s) (slotBox s') :=
  Ring.lead_disjoint (s := S3x1024x4096) (0 : Fin 3) 1 (fun s : Fin 3 => (![s.val, 0, 0] : Fin 3 → Nat)) S1x1024x4096.size slot_inb (fun s => by simp) rfl s s' h
theorem slotBox_cover : Finset.univ.biUnion slotBox = Finset.univ :=
  Ring.lead_cover (s := S3x1024x4096) (0 : Fin 3) 1 (fun s : Fin 3 => (![s.val, 0, 0] : Fin 3 → Nat)) S1x1024x4096.size slot_inb (fun s => by simp)
    (fun s a ha => by fin_cases a <;> first | exact absurd rfl ha | rfl) rfl (fun a ha => by fin_cases a <;> first | exact absurd rfl ha | rfl) rfl

section InOut
variable (c : Dev nD) (W : Held (F := F) c xM)
theorem slotAt_eq (s : Fin 3) (f) : slotAt (F := F) c s f = (((c : Thread nD τ).loc cc0_scratch0) ↦[slotBox s]{fullShare} f : sProp 𝕄) := by
  unfold slotAt; rw [slotBox_eq]; rfl
/-- A share of the tokens is one block of it and the rest. -/
theorem share_split (s : Fin 3) (b : Fin 16) : shareAt (F := F) c W s ⊣⊢ iprop(partAt c W s b ∗ otherAt c W s b) := by
  unfold otherAt; exact pointsTo_split_subset (Finset.subset_univ _)
/-- The tokens whole are the three shares. -/
theorem shares : (heldAt c xM W : sProp 𝕄) ⊣⊢ iprop(shareAt c W 0 ∗ shareAt c W 1 ∗ shareAt c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- The scratch whole is its slots, and back. -/
theorem slots_in : iprop(∃ d, owns (c : Thread nD τ) ringM fullShare d) ⊢ (iprop((∃ f, slotAt (F := F) c 0 f) ∗ (∃ f, slotAt (F := F) c 1 f) ∗ ∃ f, slotAt (F := F) c 2 f) : sProp 𝕄) := by
  simp only [ringM, owns_whole]
  exact Ring.slots3_split (U := Pipeline.UD sig nD τ) (ℓ := (c : Thread nD τ).loc cc0_scratch0) (q := fullShare) slotBox slotBox_apart slotBox_cover
    (slotAt c 0) (slotAt c 1) (slotAt c 2) (slotAt_eq c 0) (slotAt_eq c 1) (slotAt_eq c 2)
set_option maxHeartbeats 1000000 in
theorem slots_out : (iprop((∃ f, slotAt (F := F) c 0 f) ∗ (∃ f, slotAt (F := F) c 1 f) ∗ ∃ f, slotAt (F := F) c 2 f) : sProp 𝕄) ⊢ iprop(∃ d, owns (c : Thread nD τ) ringM fullShare d) := by
  simp only [ringM, owns_whole]
  exact Ring.slots3_join (U := Pipeline.UD sig nD τ) (ℓ := (c : Thread nD τ).loc cc0_scratch0) (q := fullShare) slotBox slotBox_apart slotBox_cover
    (slotAt c 0) (slotAt c 1) (slotAt c 2) (slotAt_eq c 0) (slotAt_eq c 1) (slotAt_eq c 2)
end InOut

/-- What the launch hands over makes the ring before its first step. -/
theorem ring_enter (c : Dev nD) (W : Held (F := F) c xM) :
    iprop((∃ d, owns (c : Thread nD τ) ringM fullShare d) ∗ (semVal ((c : Thread nD τ), SemLoc.dma 6) 0 ∗ semVal ((c : Thread nD τ), SemLoc.dma 7) 0 ∗ semVal ((c : Thread nD τ), SemLoc.dma 8) 0) ∗ heldAt c xM W)
      ⊢ ringBefore c W 0 := by
  unfold ringBefore; rw [if_pos rfl]; unfold Ring.At₀
  rw [Ring.bigSep_fin3]
  simp only [Ring.free, cellAt_0, cellAt_1, cellAt_2]
  iintro ⟨HS, Hc, HW⟩
  iapply Ring.with_homes₀
  icases Hc with ⟨H0, H1, H2⟩
  ihave HS' := (slots_in (F := F) c) $$ HS
  icases HS' with ⟨⟨%d0, HS0⟩, ⟨%d1, HS1⟩, ⟨%d2, HS2⟩⟩
  ihave HW' := (shares (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- And the ring after its last step gives it back. -/
theorem ring_leave (c : Dev nD) (W : Held (F := F) c xM) :
    ringBefore c W 16
      ⊢ iprop((∃ d, owns (c : Thread nD τ) ringM fullShare d) ∗ (semVal ((c : Thread nD τ), SemLoc.dma 6) 0 ∗ semVal ((c : Thread nD τ), SemLoc.dma 7) 0 ∗ semVal ((c : Thread nD τ), SemLoc.dma 8) 0) ∗ heldAt c xM W) := by
  unfold ringBefore; rw [if_neg (by decide)]
  iintro H
  ihave H' := (Ring.free3_of_At_last _ _ _ _) $$ H
  simp only [Ring.free, cellAt_0, cellAt_1, cellAt_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (shares (F := F) c W).2; isplitl [HW0]; · iexact HW0
    isplitl [HW1]; · iexact HW1
    iexact HW2

/-! ### The body's operands are the ring's slots, blocks and counters -/

section Canon
omit [FloatOps F]
theorem bk_0 (t : Fin grid0.N) (h : t.val = 0) : Ring.bk 16 t.val = 0 := by rw [h]; rfl
theorem bk_1 (t : Fin grid0.N) (h : t.val = 0) : Ring.bk 16 (t.val + 1) = 1 := by rw [h]; rfl
theorem bk_2 (t : Fin grid0.N) (h : t.val = 0) : Ring.bk 16 (t.val + 2) = 2 := by rw [h]; rfl
set_option synthInstance.maxSize 4096 in
theorem off2_0 : ∀ t : Fin grid0.N, primes (grid0.coords t) → k0_off2 0#32 = ![(Ring.sl 3 t.val).val, 0, 0] := by decide +kernel
set_option synthInstance.maxSize 4096 in
theorem off2_1 : ∀ t : Fin grid0.N, primes (grid0.coords t) → k0_off2 1#32 = ![(Ring.sl 3 (t.val + 1)).val, 0, 0] := by decide +kernel
set_option synthInstance.maxSize 4096 in
theorem off2_2 : ∀ t : Fin grid0.N, primes (grid0.coords t) → k0_off2 2#32 = ![(Ring.sl 3 (t.val + 2)).val, 0, 0] := by decide +kernel
set_option synthInstance.maxSize 4096 in
theorem off1_0 : ∀ t : Fin grid0.N, primes (grid0.coords t) → k0_off1 0#32 = ![(Ring.sl 3 t.val).val] := by decide +kernel
set_option synthInstance.maxSize 4096 in
theorem off1_1 : ∀ t : Fin grid0.N, primes (grid0.coords t) → k0_off1 1#32 = ![(Ring.sl 3 (t.val + 1)).val] := by decide +kernel
set_option synthInstance.maxSize 4096 in
theorem off1_2 : ∀ t : Fin grid0.N, primes (grid0.coords t) → k0_off1 2#32 = ![(Ring.sl 3 (t.val + 2)).val] := by decide +kernel
set_option synthInstance.maxSize 4096 in
theorem off3_at : ∀ t : Fin grid0.N, k0_off3 (grid0.coords t) = ![(Ring.sl 3 (t.val + 2)).val] := by decide +kernel
set_option synthInstance.maxSize 4096 in
theorem off4_at : ∀ t : Fin grid0.N, k0_off4 (grid0.coords t) = ![(Ring.sl 3 (t.val + 2)).val, 0, 0] := by decide +kernel
set_option synthInstance.maxSize 4096 in
theorem off5_at : ∀ t : Fin grid0.N, ahead (grid0.coords t) → k0_off5 (grid0.coords t) = ![1024 * (Ring.bk 16 (t.val + 2)).val, 0] := by decide +kernel
set_option synthInstance.maxSize 4096 in
theorem off6_at : ∀ t : Fin grid0.N, k0_off6 (grid0.coords t) = ![(Ring.sl 3 t.val).val] := by decide +kernel
set_option synthInstance.maxSize 4096 in
theorem off7_at : ∀ t : Fin grid0.N, k0_off7 (grid0.coords t) = ![(Ring.sl 3 t.val).val, 0, 0] := by decide +kernel
set_option synthInstance.maxSize 4096 in
theorem off8_at : ∀ t : Fin grid0.N, feeds (grid0.coords t) → k0_off8 (grid0.coords t) = ![1024 * (Ring.bk 16 t.val).val, 0] := by decide +kernel
set_option synthInstance.maxSize 4096 in
theorem off9_at : ∀ t : Fin grid0.N, k0_off9 (grid0.coords t) = ![(Ring.sl 3 t.val).val, 0, 0] := by decide +kernel

/-- A slice of the ring at a slot's offsets, squeezed, is that slot. -/
theorem slotM_of {o : Fin 3 → Nat} (s : Fin 3) (h : o = ![s.val, 0, 0]) (hi) :
    (ringM.slice (Rect.unit (s := S3x1024x4096) o S1x1024x4096.size hi) (fun _ => rfl)).squeeze S1024x4096 squeezes_S1x1024x4096_S1024x4096 = slotM s := by
  subst h; rfl
/-- A slice of the tokens at a block's offsets is that block. -/
theorem blockM_of {o : Fin 2 → Nat} (b : Fin 16) (h : o = ![1024 * b.val, 0]) (hi) :
    xM.slice (Rect.unit (s := S16384x4096) o S1024x4096.size hi) (fun _ => rfl) = blockM b := by
  subst h; rfl
/-- A slice of the counters at a slot's place, squeezed, is that slot's counter. -/
theorem cellM_of {o : Fin 1 → Nat} (s : Fin 3) (h : o = ![s.val]) (hi) :
    (cc0_scratch3.slice (Rect.unit (s := S3) o S1.size hi)).squeeze S_ squeezes_S1_S_ = cellM s := by
  subst h; rfl

@[sl_canon] theorem slotM_p0 (t : Fin grid0.N) (h : primes (grid0.coords t)) :
    (ringM.slice (Rect.unit (s := S3x1024x4096) (k0_off2 0#32) S1x1024x4096.size (k0_off2_inb (grid0.coords t) h 0)) (fun _ => rfl)).squeeze S1024x4096 squeezes_S1x1024x4096_S1024x4096 = slotM (Ring.sl 3 t.val) :=
  slotM_of _ (off2_0 t h) _
@[sl_canon] theorem slotM_p1 (t : Fin grid0.N) (h : primes (grid0.coords t)) :
    (ringM.slice (Rect.unit (s := S3x1024x4096) (k0_off2 1#32) S1x1024x4096.size (k0_off2_inb (grid0.coords t) h 1)) (fun _ => rfl)).squeeze S1024x4096 squeezes_S1x1024x4096_S1024x4096 = slotM (Ring.sl 3 (t.val + 1)) :=
  slotM_of _ (off2_1 t h) _
@[sl_canon] theorem slotM_p2 (t : Fin grid0.N) (h : primes (grid0.coords t)) :
    (ringM.slice (Rect.unit (s := S3x1024x4096) (k0_off2 2#32) S1x1024x4096.size (k0_off2_inb (grid0.coords t) h 2)) (fun _ => rfl)).squeeze S1024x4096 squeezes_S1x1024x4096_S1024x4096 = slotM (Ring.sl 3 (t.val + 2)) :=
  slotM_of _ (off2_2 t h) _
@[sl_canon] theorem cellM_p0 (t : Fin grid0.N) (h : primes (grid0.coords t)) :
    (cc0_scratch3.slice (Rect.unit (s := S3) (k0_off1 0#32) S1.size (k0_off1_inb (grid0.coords t) h 0))).squeeze S_ squeezes_S1_S_ = cellM (Ring.sl 3 t.val) :=
  cellM_of _ (off1_0 t h) _
@[sl_canon] theorem cellM_p1 (t : Fin grid0.N) (h : primes (grid0.coords t)) :
    (cc0_scratch3.slice (Rect.unit (s := S3) (k0_off1 1#32) S1.size (k0_off1_inb (grid0.coords t) h 1))).squeeze S_ squeezes_S1_S_ = cellM (Ring.sl 3 (t.val + 1)) :=
  cellM_of _ (off1_1 t h) _
@[sl_canon] theorem cellM_p2 (t : Fin grid0.N) (h : primes (grid0.coords t)) :
    (cc0_scratch3.slice (Rect.unit (s := S3) (k0_off1 2#32) S1.size (k0_off1_inb (grid0.coords t) h 2))).squeeze S_ squeezes_S1_S_ = cellM (Ring.sl 3 (t.val + 2)) :=
  cellM_of _ (off1_2 t h) _
@[sl_canon] theorem blockM_p0 :
    xM.slice (Rect.unit (s := S16384x4096) ![0, 0] S1024x4096.size inb_S16384x4096_S1024x4096_0_0) (fun _ => rfl) = blockM 0 :=
  blockM_of 0 rfl _
@[sl_canon] theorem blockM_p1 :
    xM.slice (Rect.unit (s := S16384x4096) ![1024, 0] S1024x4096.size inb_S16384x4096_S1024x4096_1024_0) (fun _ => rfl) = blockM 1 :=
  blockM_of 1 rfl _
@[sl_canon] theorem blockM_p2 :
    xM.slice (Rect.unit (s := S16384x4096) ![2048, 0] S1024x4096.size inb_S16384x4096_S1024x4096_2048_0) (fun _ => rfl) = blockM 2 :=
  blockM_of 2 rfl _
@[sl_canon] theorem slotM_a (t : Fin grid0.N) (h : ahead (grid0.coords t)) :
    (ringM.slice (Rect.unit (s := S3x1024x4096) (k0_off4 (grid0.coords t)) S1x1024x4096.size (k0_off4_inb (grid0.coords t) h)) (fun _ => rfl)).squeeze S1024x4096 squeezes_S1x1024x4096_S1024x4096 = slotM (Ring.sl 3 (t.val + 2)) :=
  slotM_of _ (off4_at t) _
@[sl_canon] theorem cellM_a (t : Fin grid0.N) (h : ahead (grid0.coords t)) :
    (cc0_scratch3.slice (Rect.unit (s := S3) (k0_off3 (grid0.coords t)) S1.size (k0_off3_inb (grid0.coords t) h))).squeeze S_ squeezes_S1_S_ = cellM (Ring.sl 3 (t.val + 2)) :=
  cellM_of _ (off3_at t) _
@[sl_canon] theorem blockM_a (t : Fin grid0.N) (h : ahead (grid0.coords t)) :
    xM.slice (Rect.unit (s := S16384x4096) (k0_off5 (grid0.coords t)) S1024x4096.size (k0_off5_inb (grid0.coords t) h)) (fun _ => rfl) = blockM (Ring.bk 16 (t.val + 2)) :=
  blockM_of _ (off5_at t h) _
@[sl_canon] theorem slotM_w (t : Fin grid0.N) (h : feeds (grid0.coords t)) :
    (ringM.slice (Rect.unit (s := S3x1024x4096) (k0_off7 (grid0.coords t)) S1x1024x4096.size (k0_off7_inb (grid0.coords t) h)) (fun _ => rfl)).squeeze S1024x4096 squeezes_S1x1024x4096_S1024x4096 = slotM (Ring.sl 3 t.val) :=
  slotM_of _ (off7_at t) _
@[sl_canon] theorem cellM_w (t : Fin grid0.N) (h : feeds (grid0.coords t)) :
    (cc0_scratch3.slice (Rect.unit (s := S3) (k0_off6 (grid0.coords t)) S1.size (k0_off6_inb (grid0.coords t) h))).squeeze S_ squeezes_S1_S_ = cellM (Ring.sl 3 t.val) :=
  cellM_of _ (off6_at t) _
@[sl_canon] theorem blockM_w (t : Fin grid0.N) (h : feeds (grid0.coords t)) :
    xM.slice (Rect.unit (s := S16384x4096) (k0_off8 (grid0.coords t)) S1024x4096.size (k0_off8_inb (grid0.coords t) h)) (fun _ => rfl) = blockM (Ring.bk 16 t.val) :=
  blockM_of _ (off8_at t h) _
/-- The load of the waited block lies in its slot. -/
instance (priority := high) closedOff_slot (t : Fin grid0.N) : ClosedOff (k0_off9 (grid0.coords t)) := ⟨![(Ring.sl 3 t.val).val, 0, 0], off9_at t⟩
end Canon

end Cert.KernelIdeal.Router

end
-- ==== Proof.Ideal.Values.lean ====
/- What the body computes at a point, as functions of what it reads: the product of a block with the expert weights, the
   eight picks of a block's logits, their weights, and the usage sums; and how its loads and stores read them back. -/
module

public import proofs.«01_k».proof.Proof.Ideal.Ring
public import Idealize.ShloMosaic.Lib.VecWindow

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What one block of logits is turned into -/

/-- Block `b` of the tokens as a slot of the ring is loaded. -/
def tokens (c : Dev nD) (W : Held (F := F) c xM) (b : Fin 16) : Vec F S1x1024x4096 .f32 :=
  fun j => (blockM b).view.read (Elt F) W ((Shape.reshapeEquiv squeezes_S1x1024x4096_S1024x4096.numel_eq).symm j)
/-- The eight expert numbers of each of a block's tokens. -/
def picks (v : Vec F S1x1024x64 .f32) : Vec F S1024x8 .i32 :=
  k0_pay3 (k0_pay12 v) (k0_pay16 v) (k0_pay20 v) (k0_pay25 (k0_pay9 (F := F)) (k0_pay21 v) (k0_pay23 v)) (k0_pay29 (k0_pay9 (F := F)) (k0_pay21 v) (k0_pay23 v))
    (k0_pay33 (k0_pay9 (F := F)) (k0_pay21 v) (k0_pay23 v)) (k0_pay37 (k0_pay9 (F := F)) (k0_pay21 v) (k0_pay23 v)) (k0_pay40 (k0_pay9 (F := F)) (k0_pay21 v) (k0_pay23 v))
/-- Their weights. -/
def shares8 (v : Vec F S1x1024x64 .f32) : Vec F S1024x8 .f32 :=
  k0_pay4 (k0_pay10 v) (k0_pay14 v) (k0_pay18 v) (k0_pay22 v) (k0_pay27 (k0_pay21 v) (k0_pay23 v)) (k0_pay31 (k0_pay21 v) (k0_pay23 v))
    (k0_pay35 (k0_pay21 v) (k0_pay23 v)) (k0_pay39 (k0_pay21 v) (k0_pay23 v))
/-- The usage sums `u` with this block's added. -/
def used (v : Vec F S1x1024x64 .f32) (u : Vec F S1x64 .f32) : Vec F S1x64 .f32 :=
  k0_pay6 (k0_pay8 v) (k0_pay10 v) (k0_pay14 v) (k0_pay18 v) (k0_pay22 v) (k0_pay27 (k0_pay21 v) (k0_pay23 v)) (k0_pay31 (k0_pay21 v) (k0_pay23 v))
    (k0_pay35 (k0_pay21 v) (k0_pay23 v)) (k0_pay39 (k0_pay21 v) (k0_pay23 v)) u

/-- The logits the body reads at point `t`: the slot the point before filled. -/
def readSlot (t : Fin cfg0.N) (h : routes (grid0.coords t)) (f : Vec F S2x1024x64 .f32) : Vec F S1x1024x64 .f32 :=
  VecWindow.window f (k0_off11 (grid0.coords t)) S1x1024x64.size (k0_off11_inb (grid0.coords t) h)
/-- The logits buffer once the body has stored a block's product at point `t`. -/
def fillSlot (t : Fin cfg0.N) (f : Vec F S2x1024x64 .f32) (p : Vec F S1x1024x64 .f32) : Vec F S2x1024x64 .f32 :=
  VecWindow.put f (k0_off10 (grid0.coords t)) S1x1024x64.size p

/-- The slots written and read at one point are apart. -/
theorem slots_differ : ∀ t : Fin grid0.N, k0_off11 (grid0.coords t) 0 + 1 ≤ k0_off10 (grid0.coords t) 0 ∨ k0_off10 (grid0.coords t) 0 + 1 ≤ k0_off11 (grid0.coords t) 0 := by
  decide +kernel
/-- The slot filled at a point is the one read at the next. -/
theorem slot_next : ∀ t t' : Fin grid0.N, t'.val = t.val + 1 → k0_off11 (grid0.coords t') = k0_off10 (grid0.coords t) := by
  decide +kernel

/-- Filling one slot leaves the other. -/
theorem readSlot_fill_same (t : Fin cfg0.N) (h : routes (grid0.coords t)) (f : Vec F S2x1024x64 .f32) (p : Vec F S1x1024x64 .f32) :
    readSlot t h (fillSlot t f p) = readSlot t h f :=
  VecWindow.window_put_of_disjoint f _ _ _ _ _ p 0 (slots_differ t)
/-- What was filled at a point is read at the next. -/
theorem readSlot_fill_next (t t' : Fin cfg0.N) (e : t'.val = t.val + 1) (h : routes (grid0.coords t')) (f : Vec F S2x1024x64 .f32) (p : Vec F S1x1024x64 .f32) :
    readSlot t' h (fillSlot t f p) = p := by
  have hi : ∀ a, k0_off10 (grid0.coords t) a + S1x1024x64.size a ≤ S2x1024x64.size a := by
    rw [← slot_next t t' e]; exact k0_off11_inb (grid0.coords t') h
  have : ∀ (o : Fin 3 → Nat) (ho : ∀ a, o a + S1x1024x64.size a ≤ S2x1024x64.size a), o = k0_off10 (grid0.coords t) →
      VecWindow.window (fillSlot t f p) o S1x1024x64.size ho = p := by
    intro o ho eo; subst eo; exact VecWindow.window_put_same f _ _ _ p
  exact this _ _ (slot_next t t' e)

/-! ## Loads and stores -/

/-- A slot holding block `b`, loaded through the ring. -/
theorem slot_load (c : Dev nD) (t : Fin cfg0.N) (h : feeds (grid0.coords t)) (g : Held (F := F) c (slotM (Ring.sl 3 t.val))) (W : Held (F := F) c xM) (b : Fin 16) :
    ringM.view.readAt (Elt F) (Rect.unit (s := S3x1024x4096) (k0_off9 (grid0.coords t)) S1x1024x4096.size (k0_off9_inb (grid0.coords t) h)).toLoadRect
        ((slotM (Ring.sl 3 t.val)).view.writes (Elt F) g [⟨Rect.whole S1024x4096, ReadAs.same.apply ((blockM b).view.read (Elt F) W)⟩])
      = tokens c W b := by
  have key : ∀ (s : Fin 3) (o : Fin 3 → Nat) (ho : ∀ a, o a + S1x1024x4096.size a ≤ S3x1024x4096.size a) (g : Held (F := F) c (slotM s)), o = ![s.val, 0, 0] →
      ringM.view.readAt (Elt F) (Rect.unit (s := S3x1024x4096) o S1x1024x4096.size ho).toLoadRect
        ((slotM s).view.writes (Elt F) g [⟨Rect.whole S1024x4096, ReadAs.same.apply ((blockM b).view.read (Elt F) W)⟩]) = tokens c W b := by
    intro s o ho g e
    subst e
    funext j
    have h1 := congrFun (View.read_writes_whole (slotM s).view g (ReadAs.same.apply ((blockM b).view.read (Elt F) W)))
      ((Shape.reshapeEquiv squeezes_S1x1024x4096_S1024x4096.numel_eq).symm j)
    refine Eq.trans ?_ h1
    show ringM.view.read (Elt F) _ ((Rect.unit (s := S3x1024x4096) ![s.val, 0, 0] S1x1024x4096.size (slot_inb s)).emb j)
      = ringM.view.read (Elt F) _ ((Rect.unit (s := S3x1024x4096) ![s.val, 0, 0] S1x1024x4096.size (slot_inb s)).emb (Shape.reshapeEquiv squeezes_S1x1024x4096_S1024x4096.numel_eq ((Shape.reshapeEquiv squeezes_S1x1024x4096_S1024x4096.numel_eq).symm j)))
    rw [Equiv.apply_symm_apply]
  exact key _ _ _ g (off9_at t)

/-- The logits load past the point's own store. -/
theorem logit_load (t : Fin cfg0.N) (h3 : feeds (grid0.coords t)) (h4 : routes (grid0.coords t)) (g : logM.view.ty.Contents (Elt F)) (p : Vec F S1x1024x64 .f32) :
    logM.view.readAt (Elt F) (Rect.unit (s := S2x1024x64) (k0_off11 (grid0.coords t)) S1x1024x64.size (k0_off11_inb (grid0.coords t) h4)).toLoadRect
        (logM.view.writes (Elt F) g [⟨Rect.unit (s := S2x1024x64) (k0_off10 (grid0.coords t)) S1x1024x64.size (k0_off10_inb (grid0.coords t) h3), p⟩])
      = readSlot t h4 (logM.view.read (Elt F) g) := by
  rw [View.readAt_unit _ _ _ rfl (k0_off11_inb (grid0.coords t) h4), View.read_writes_cons_put _ _ _ _ _ rfl, View.writes_nil]
  exact readSlot_fill_same t h4 _ p
/-- The logits load alone. -/
theorem logit_load_alone (t : Fin cfg0.N) (h4 : routes (grid0.coords t)) (g : logM.view.ty.Contents (Elt F)) :
    logM.view.readAt (Elt F) (Rect.unit (s := S2x1024x64) (k0_off11 (grid0.coords t)) S1x1024x64.size (k0_off11_inb (grid0.coords t) h4)).toLoadRect g
      = readSlot t h4 (logM.view.read (Elt F) g) :=
  View.readAt_unit _ _ _ rfl (k0_off11_inb (grid0.coords t) h4)
/-- The logits buffer after the store. -/
theorem logit_store (t : Fin cfg0.N) (h3 : feeds (grid0.coords t)) (g : logM.view.ty.Contents (Elt F)) (p : Vec F S1x1024x64 .f32) :
    logM.view.read (Elt F) (logM.view.writes (Elt F) g [⟨Rect.unit (s := S2x1024x64) (k0_off10 (grid0.coords t)) S1x1024x64.size (k0_off10_inb (grid0.coords t) h3), p⟩])
      = fillSlot t (logM.view.read (Elt F) g) p := by
  rw [View.read_writes_cons_put _ _ _ _ _ rfl, View.writes_nil]; rfl
/-- A load of all of a whole memref at given contents. -/
theorem whole_load {sp : Space} {S : Shape} {e : EltTy} (M : Memref sig .tc sp S e) (hM : M.IsWhole) (x : Vec F S e) {off : Fin S.rank → ℕ} (inb : ∀ a, off a + S.size a ≤ S.size a) :
    M.view.readAt (Elt F) (Rect.unit off S.size inb).toLoadRect (hM.unread x) = x := by
  rw [View.readAt_full]; exact hM.read_unread x

end Cert.KernelIdeal.Router

end
-- ==== Proof.Ideal.RunsA.lean ====
/- The body at one kind of point of the grid, run through. -/
module

public import proofs.«01_k».proof.Proof.Ideal.Values

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The first point: the first three transfers are started, block 0 is waited for and multiplied. -/
theorem run_first (c : Dev nD) (t : Fin cfg0.N) (arg2 : Memref sig .tc .vmem S4096x64 .f32) (harg2 : arg2.IsWhole)
    (arg3 : Memref sig .tc .vmem S1024x8 .i32) (harg3 : arg3.IsWhole) (arg4 : Memref sig .tc .vmem S1024x8 .f32) (harg4 : arg4.IsWhole)
    (arg5 : Memref sig .tc .vmem S1x1 .f32) (harg5 : arg5.IsWhole)
    (h1 : primes (grid0.coords t)) (h2 : ¬ ahead (grid0.coords t)) (h3 : feeds (grid0.coords t)) (h4 : ¬ routes (grid0.coords t)) (h6 : ¬ closes (grid0.coords t)) (ht : t.val = 0)
    (x0 : Vec F S4096x64 .f32) (fh : Held (F := F) c xM)
    (W : Waits sig Unit) (K : PUnit → sProp 𝕄) :
        iprop(owns (c : Thread nD τ) arg2 fullShare x0 ∗ (∃ d, owns (c : Thread nD τ) logM fullShare d)
            ∗ Ring.free (cellAt c) (restingAt c fh) (Ring.sl 3 t.val)
            ∗ Ring.free (cellAt c) (restingAt c fh) (Ring.sl 3 (t.val + 1))
            ∗ Ring.free (cellAt c) (restingAt c fh) (Ring.sl 3 (t.val + 2)) ∗ owes (c : Thread nD τ) 0 W
            ∗ (iprop(owns (c : Thread nD τ) arg2 fullShare x0 ∗ (∃ fl, owns (c : Thread nD τ) logM fullShare (fillSlot t fl (k0_pay1 (tokens c fh (Ring.bk 16 t.val)) x0)))
            ∗ Ring.inflight (movingAt c fh) (Ring.sl 3 (t.val + 1)) (Ring.bk 16 (t.val + 1))
            ∗ Ring.inflight (movingAt c fh) (Ring.sl 3 (t.val + 2)) (Ring.bk 16 (t.val + 2))
            ∗ Ring.free (cellAt c) (restingAt c fh) (Ring.sl 3 t.val) ∗ (∃ W', owes (c : Thread nD τ) 0 W')) -∗ K ⟨⟩))
          ⊢ wp frame (wpE (defs₀ (F := F)) Variants.none c none) Set.univ (cc0__router_block (grid0.coords t) xM (Memref.isWhole_whole _) arg2 harg2 arg3 harg3 arg4 harg4 arg5 harg5 ringM (Memref.isWhole_whole _) logM (Memref.isWhole_whole _) useM (Memref.isWhole_whole _) cc0_scratch3) K := by
  haveI : Fact (primes (grid0.coords t)) := ⟨h1⟩
  haveI : Fact (¬ ahead (grid0.coords t)) := ⟨h2⟩
  haveI : Fact (feeds (grid0.coords t)) := ⟨h3⟩
  simp only [cc0__router_block_eq_skeleton]; unfold cc0__router_block_skel
  simp (config := { proj := false }) only [k0_part1_eq_skeleton, k0_part2_eq_skeleton]
  unfold owns Ring.free Ring.inflight
  iintro ⟨⟨%f0, %hf0, H0⟩, ⟨%dl, %gl, %hgl, HL⟩, ⟨Hc0, ⟨%fs0, Hs0, Hw0⟩⟩, ⟨Hc1, ⟨%fs1, Hs1, Hw1⟩⟩, ⟨Hc2, ⟨%fs2, Hs2, Hw2⟩⟩, HW, Hk⟩
  ihave Hsp0 := (share_split c fh (Ring.sl 3 t.val) (Ring.bk 16 t.val)).1 $$ Hw0
  icases Hsp0 with ⟨Hh0, Hr0⟩
  ihave Hsp1 := (share_split c fh (Ring.sl 3 (t.val + 1)) (Ring.bk 16 (t.val + 1))).1 $$ Hw1
  icases Hsp1 with ⟨Hh1, Hr1⟩
  ihave Hsp2 := (share_split c fh (Ring.sl 3 (t.val + 2)) (Ring.bk 16 (t.val + 2))).1 $$ Hw2
  icases Hsp2 with ⟨Hh2, Hr2⟩
  rw [bk_0 t ht, bk_1 t ht, bk_2 t ht]
  obtain rfl := harg2.eq_unread hf0
  sl_exec (disch := first | sl_exact h1 | sl_exact h2 | sl_exact h3 | sl_exact h4 | sl_exact h6)
  sl_step
  iapply Hk
  isplitl [H0]
  · iexists _; isplitr; swap; iexact H0
    ipureintro; exact harg2.read_unread x0
  isplitl [HL]
  · iexists dl, _; isplitr; swap; iexact HL
    ipureintro; exact (logit_store t h3 gl _).trans (congrArg₂ (fillSlot t) hgl (congrArg₂ k0_pay1 (slot_load c t h3 _ fh _) (whole_load arg2 harg2 x0 _)))
  isplitl [Hc1 Hr1]
  · iexists _; isplitl [Hc1]; · iexact Hc1
    iexact Hr1
  isplitl [Hc2 Hr2]
  · iexists _; isplitl [Hc2]; · iexact Hc2
    iexact Hr2
  isplitl [Hc0 Hs0 Hh0 Hr0]
  · isplitl [Hc0]; · iexact Hc0
    iexists _; isplitl [Hs0]; · iexact Hs0
    iapply (share_split c fh (Ring.sl 3 t.val) 0).2
    isplitl [Hh0]; · iexact Hh0
    iexact Hr0
  iexists _; iexact HW

end Cert.KernelIdeal.Router

end
-- ==== Proof.Ideal.RunsB.lean ====
/- The body at one kind of point of the grid, run through. -/
module

public import proofs.«01_k».proof.Proof.Ideal.Values

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- A point in the middle: a transfer two blocks ahead is started, a block is waited for and multiplied, and the block before is routed. -/
theorem run_steady (c : Dev nD) (t : Fin cfg0.N) (arg2 : Memref sig .tc .vmem S4096x64 .f32) (harg2 : arg2.IsWhole)
    (arg3 : Memref sig .tc .vmem S1024x8 .i32) (harg3 : arg3.IsWhole) (arg4 : Memref sig .tc .vmem S1024x8 .f32) (harg4 : arg4.IsWhole)
    (arg5 : Memref sig .tc .vmem S1x1 .f32) (harg5 : arg5.IsWhole)
    (h1 : ¬ primes (grid0.coords t)) (h2 : ahead (grid0.coords t)) (h3 : feeds (grid0.coords t)) (h4 : routes (grid0.coords t)) (h5 : ¬ clears (grid0.coords t)) (h6 : ¬ closes (grid0.coords t))
    (x0 : Vec F S4096x64 .f32) (fh : Held (F := F) c xM) (fl : Vec F S2x1024x64 .f32) (fu : Vec F S1x64 .f32)
    (W : Waits sig Unit) (K : PUnit → sProp 𝕄) :
        iprop(owns (c : Thread nD τ) arg2 fullShare x0 ∗ (∃ d, owns (c : Thread nD τ) arg3 fullShare d)
            ∗ (∃ d, owns (c : Thread nD τ) arg4 fullShare d)
            ∗ owns (c : Thread nD τ) logM fullShare fl
            ∗ owns (c : Thread nD τ) useM fullShare fu
            ∗ Ring.inflight (movingAt c fh) (Ring.sl 3 t.val) (Ring.bk 16 t.val)
            ∗ Ring.inflight (movingAt c fh) (Ring.sl 3 (t.val + 1)) (Ring.bk 16 (t.val + 1))
            ∗ Ring.free (cellAt c) (restingAt c fh) (Ring.sl 3 (t.val + 2)) ∗ owes (c : Thread nD τ) 0 W
            ∗ (iprop(owns (c : Thread nD τ) arg2 fullShare x0 ∗ owns (c : Thread nD τ) arg3 fullShare (picks (readSlot t h4 fl))
            ∗ owns (c : Thread nD τ) arg4 fullShare (shares8 (readSlot t h4 fl))
            ∗ owns (c : Thread nD τ) logM fullShare (fillSlot t fl (k0_pay1 (tokens c fh (Ring.bk 16 t.val)) x0))
            ∗ owns (c : Thread nD τ) useM fullShare (used (readSlot t h4 fl) fu)
            ∗ Ring.inflight (movingAt c fh) (Ring.sl 3 (t.val + 1)) (Ring.bk 16 (t.val + 1))
            ∗ Ring.inflight (movingAt c fh) (Ring.sl 3 (t.val + 2)) (Ring.bk 16 (t.val + 2))
            ∗ Ring.free (cellAt c) (restingAt c fh) (Ring.sl 3 t.val) ∗ (∃ W', owes (c : Thread nD τ) 0 W')) -∗ K ⟨⟩))
          ⊢ wp frame (wpE (defs₀ (F := F)) Variants.none c none) Set.univ (cc0__router_block (grid0.coords t) xM (Memref.isWhole_whole _) arg2 harg2 arg3 harg3 arg4 harg4 arg5 harg5 ringM (Memref.isWhole_whole _) logM (Memref.isWhole_whole _) useM (Memref.isWhole_whole _) cc0_scratch3) K := by
  haveI : Fact (¬ primes (grid0.coords t)) := ⟨h1⟩
  haveI : Fact (ahead (grid0.coords t)) := ⟨h2⟩
  haveI : Fact (feeds (grid0.coords t)) := ⟨h3⟩
  simp only [cc0__router_block_eq_skeleton]; unfold cc0__router_block_skel
  simp (config := { proj := false }) only [k0_part1_eq_skeleton, k0_part2_eq_skeleton]
  unfold owns Ring.free Ring.inflight
  iintro ⟨⟨%f0, %hf0, H0⟩, ⟨%d1, %f1, -, H1⟩, ⟨%d2, %f2, -, H2⟩, ⟨%gl, %hgl, HL⟩, ⟨%gu, %hgu, HU⟩, ⟨%ff0, Hf0, Hrf0⟩, ⟨%ff1, Hf1, Hrf1⟩, ⟨Hc2, ⟨%fs2, Hs2, Hw2⟩⟩, HW, Hk⟩
  ihave Hsp := (share_split c fh (Ring.sl 3 (t.val + 2)) (Ring.bk 16 (t.val + 2))).1 $$ Hw2
  icases Hsp with ⟨Hh2, Hr2⟩
  obtain rfl := harg2.eq_unread hf0
  sl_exec (disch := first | sl_exact h1 | sl_exact h2 | sl_exact h3 | sl_exact h4 | sl_exact h5 | sl_exact h6)
  sl_step
  iapply Hk
  isplitl [H0]
  · iexists _; isplitr; swap; iexact H0
    ipureintro; exact harg2.read_unread x0
  isplitl [H1]
  · iexists _; isplitr; swap; iexact H1
    ipureintro; exact (View.read_writes_full arg3.view f1 _ _ []).trans (congrArg picks ((logit_load t h3 h4 gl _).trans (congrArg (readSlot t h4) hgl)))
  isplitl [H2]
  · iexists _; isplitr; swap; iexact H2
    ipureintro; exact (View.read_writes_full arg4.view f2 _ _ []).trans (congrArg shares8 ((logit_load t h3 h4 gl _).trans (congrArg (readSlot t h4) hgl)))
  isplitl [HL]
  · iexists _; isplitr; swap; iexact HL
    ipureintro; exact (logit_store t h3 gl _).trans (congrArg₂ (fillSlot t) hgl (congrArg₂ k0_pay1 (slot_load c t h3 _ fh _) (whole_load arg2 harg2 x0 _)))
  isplitl [HU]
  · iexists _; isplitr; swap; iexact HU
    ipureintro; exact (View.read_writes_full useM.view gu _ _ []).trans (congrArg₂ used ((logit_load t h3 h4 gl _).trans (congrArg (readSlot t h4) hgl)) ((View.readAt_full useM.view gu _).trans hgu))
  isplitl [Hf1 Hrf1]
  · iexists ff1; isplitl [Hf1]; · iexact Hf1
    iexact Hrf1
  isplitl [Hc2 Hr2]
  · iexists _; isplitl [Hc2]; · iexact Hc2
    iexact Hr2
  isplitl [Hf0 Hf0_dst Hf0_src Hrf0]
  · isplitl [Hf0]; · iexact Hf0
    iexists _; isplitl [Hf0_dst]; · iexact Hf0_dst
    iapply (share_split c fh (Ring.sl 3 t.val) (Ring.bk 16 t.val)).2
    isplitl [Hf0_src]; · iexact Hf0_src
    iexact Hrf0
  iexists _; iexact HW

end Cert.KernelIdeal.Router

end
-- ==== Proof.Ideal.RunsB1.lean ====
/- The body at one kind of point of the grid, run through. -/
module

public import proofs.«01_k».proof.Proof.Ideal.Values

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The second point: as in the middle, and the usage sums are cleared first. -/
theorem run_second (c : Dev nD) (t : Fin cfg0.N) (arg2 : Memref sig .tc .vmem S4096x64 .f32) (harg2 : arg2.IsWhole)
    (arg3 : Memref sig .tc .vmem S1024x8 .i32) (harg3 : arg3.IsWhole) (arg4 : Memref sig .tc .vmem S1024x8 .f32) (harg4 : arg4.IsWhole)
    (arg5 : Memref sig .tc .vmem S1x1 .f32) (harg5 : arg5.IsWhole)
    (h1 : ¬ primes (grid0.coords t)) (h2 : ahead (grid0.coords t)) (h3 : feeds (grid0.coords t)) (h4 : routes (grid0.coords t)) (h5 : clears (grid0.coords t)) (h6 : ¬ closes (grid0.coords t))
    (x0 : Vec F S4096x64 .f32) (fh : Held (F := F) c xM) (fl : Vec F S2x1024x64 .f32)
    (W : Waits sig Unit) (K : PUnit → sProp 𝕄) :
        iprop(owns (c : Thread nD τ) arg2 fullShare x0 ∗ (∃ d, owns (c : Thread nD τ) arg3 fullShare d)
            ∗ (∃ d, owns (c : Thread nD τ) arg4 fullShare d)
            ∗ owns (c : Thread nD τ) logM fullShare fl
            ∗ (∃ d, owns (c : Thread nD τ) useM fullShare d)
            ∗ Ring.inflight (movingAt c fh) (Ring.sl 3 t.val) (Ring.bk 16 t.val)
            ∗ Ring.inflight (movingAt c fh) (Ring.sl 3 (t.val + 1)) (Ring.bk 16 (t.val + 1))
            ∗ Ring.free (cellAt c) (restingAt c fh) (Ring.sl 3 (t.val + 2)) ∗ owes (c : Thread nD τ) 0 W
            ∗ (iprop(owns (c : Thread nD τ) arg2 fullShare x0 ∗ owns (c : Thread nD τ) arg3 fullShare (picks (readSlot t h4 fl))
            ∗ owns (c : Thread nD τ) arg4 fullShare (shares8 (readSlot t h4 fl))
            ∗ owns (c : Thread nD τ) logM fullShare (fillSlot t fl (k0_pay1 (tokens c fh (Ring.bk 16 t.val)) x0))
            ∗ owns (c : Thread nD τ) useM fullShare (used (readSlot t h4 fl) (k0_pay5 (F := F)))
            ∗ Ring.inflight (movingAt c fh) (Ring.sl 3 (t.val + 1)) (Ring.bk 16 (t.val + 1))
            ∗ Ring.inflight (movingAt c fh) (Ring.sl 3 (t.val + 2)) (Ring.bk 16 (t.val + 2))
            ∗ Ring.free (cellAt c) (restingAt c fh) (Ring.sl 3 t.val) ∗ (∃ W', owes (c : Thread nD τ) 0 W')) -∗ K ⟨⟩))
          ⊢ wp frame (wpE (defs₀ (F := F)) Variants.none c none) Set.univ (cc0__router_block (grid0.coords t) xM (Memref.isWhole_whole _) arg2 harg2 arg3 harg3 arg4 harg4 arg5 harg5 ringM (Memref.isWhole_whole _) logM (Memref.isWhole_whole _) useM (Memref.isWhole_whole _) cc0_scratch3) K := by
  haveI : Fact (¬ primes (grid0.coords t)) := ⟨h1⟩
  haveI : Fact (ahead (grid0.coords t)) := ⟨h2⟩
  haveI : Fact (feeds (grid0.coords t)) := ⟨h3⟩
  simp only [cc0__router_block_eq_skeleton]; unfold cc0__router_block_skel
  simp (config := { proj := false }) only [k0_part1_eq_skeleton, k0_part2_eq_skeleton]
  unfold owns Ring.free Ring.inflight
  iintro ⟨⟨%f0, %hf0, H0⟩, ⟨%d1, %f1, -, H1⟩, ⟨%d2, %f2, -, H2⟩, ⟨%gl, %hgl, HL⟩, ⟨%du, %gu, -, HU⟩, ⟨%ff0, Hf0, Hrf0⟩, ⟨%ff1, Hf1, Hrf1⟩, ⟨Hc2, ⟨%fs2, Hs2, Hw2⟩⟩, HW, Hk⟩
  ihave Hsp := (share_split c fh (Ring.sl 3 (t.val + 2)) (Ring.bk 16 (t.val + 2))).1 $$ Hw2
  icases Hsp with ⟨Hh2, Hr2⟩
  obtain rfl := harg2.eq_unread hf0
  sl_exec (disch := first | sl_exact h1 | sl_exact h2 | sl_exact h3 | sl_exact h4 | sl_exact h5 | sl_exact h6)
  sl_step
  iapply Hk
  isplitl [H0]
  · iexists _; isplitr; swap; iexact H0
    ipureintro; exact harg2.read_unread x0
  isplitl [H1]
  · iexists _; isplitr; swap; iexact H1
    ipureintro; exact (View.read_writes_full arg3.view f1 _ _ []).trans (congrArg picks ((logit_load t h3 h4 gl _).trans (congrArg (readSlot t h4) hgl)))
  isplitl [H2]
  · iexists _; isplitr; swap; iexact H2
    ipureintro; exact (View.read_writes_full arg4.view f2 _ _ []).trans (congrArg shares8 ((logit_load t h3 h4 gl _).trans (congrArg (readSlot t h4) hgl)))
  isplitl [HL]
  · iexists _; isplitr; swap; iexact HL
    ipureintro; exact (logit_store t h3 gl _).trans (congrArg₂ (fillSlot t) hgl (congrArg₂ k0_pay1 (slot_load c t h3 _ fh _) (whole_load arg2 harg2 x0 _)))
  isplitl [HU]
  · iexists _; isplitr; swap; iexact HU
    ipureintro; exact (View.read_writes_full useM.view gu _ _ _).trans (congrArg₂ used ((logit_load t h3 h4 gl _).trans (congrArg (readSlot t h4) hgl)) (View.readCov_full useM.view _ _ _ []))
  isplitl [Hf1 Hrf1]
  · iexists ff1; isplitl [Hf1]; · iexact Hf1
    iexact Hrf1
  isplitl [Hc2 Hr2]
  · iexists _; isplitl [Hc2]; · iexact Hc2
    iexact Hr2
  isplitl [Hf0 Hf0_dst Hf0_src Hrf0]
  · isplitl [Hf0]; · iexact Hf0
    iexists _; isplitl [Hf0_dst]; · iexact Hf0_dst
    iapply (share_split c fh (Ring.sl 3 t.val) (Ring.bk 16 t.val)).2
    isplitl [Hf0_src]; · iexact Hf0_src
    iexact Hrf0
  iexists _; iexact HW

end Cert.KernelIdeal.Router

end
-- ==== Proof.Ideal.RunsC.lean ====
/- The body at one kind of point of the grid, run through. -/
module

public import proofs.«01_k».proof.Proof.Ideal.Values

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The last two blocks: no further transfer is started. -/
theorem run_late (c : Dev nD) (t : Fin cfg0.N) (arg2 : Memref sig .tc .vmem S4096x64 .f32) (harg2 : arg2.IsWhole)
    (arg3 : Memref sig .tc .vmem S1024x8 .i32) (harg3 : arg3.IsWhole) (arg4 : Memref sig .tc .vmem S1024x8 .f32) (harg4 : arg4.IsWhole)
    (arg5 : Memref sig .tc .vmem S1x1 .f32) (harg5 : arg5.IsWhole)
    (h1 : ¬ primes (grid0.coords t)) (h2 : ¬ ahead (grid0.coords t)) (h3 : feeds (grid0.coords t)) (h4 : routes (grid0.coords t)) (h5 : ¬ clears (grid0.coords t)) (h6 : ¬ closes (grid0.coords t))
    (x0 : Vec F S4096x64 .f32) (fh : Held (F := F) c xM) (fl : Vec F S2x1024x64 .f32) (fu : Vec F S1x64 .f32)
    (W : Waits sig Unit) (K : PUnit → sProp 𝕄) :
        iprop(owns (c : Thread nD τ) arg2 fullShare x0 ∗ (∃ d, owns (c : Thread nD τ) arg3 fullShare d)
            ∗ (∃ d, owns (c : Thread nD τ) arg4 fullShare d)
            ∗ owns (c : Thread nD τ) logM fullShare fl
            ∗ owns (c : Thread nD τ) useM fullShare fu
            ∗ Ring.inflight (movingAt c fh) (Ring.sl 3 t.val) (Ring.bk 16 t.val) ∗ owes (c : Thread nD τ) 0 W
            ∗ (iprop(owns (c : Thread nD τ) arg2 fullShare x0 ∗ owns (c : Thread nD τ) arg3 fullShare (picks (readSlot t h4 fl))
            ∗ owns (c : Thread nD τ) arg4 fullShare (shares8 (readSlot t h4 fl))
            ∗ owns (c : Thread nD τ) logM fullShare (fillSlot t fl (k0_pay1 (tokens c fh (Ring.bk 16 t.val)) x0))
            ∗ owns (c : Thread nD τ) useM fullShare (used (readSlot t h4 fl) fu)
            ∗ Ring.free (cellAt c) (restingAt c fh) (Ring.sl 3 t.val) ∗ (∃ W', owes (c : Thread nD τ) 0 W')) -∗ K ⟨⟩))
          ⊢ wp frame (wpE (defs₀ (F := F)) Variants.none c none) Set.univ (cc0__router_block (grid0.coords t) xM (Memref.isWhole_whole _) arg2 harg2 arg3 harg3 arg4 harg4 arg5 harg5 ringM (Memref.isWhole_whole _) logM (Memref.isWhole_whole _) useM (Memref.isWhole_whole _) cc0_scratch3) K := by
  haveI : Fact (¬ primes (grid0.coords t)) := ⟨h1⟩
  haveI : Fact (¬ ahead (grid0.coords t)) := ⟨h2⟩
  haveI : Fact (feeds (grid0.coords t)) := ⟨h3⟩
  simp only [cc0__router_block_eq_skeleton]; unfold cc0__router_block_skel
  simp (config := { proj := false }) only [k0_part1_eq_skeleton, k0_part2_eq_skeleton]
  unfold owns Ring.free Ring.inflight
  iintro ⟨⟨%f0, %hf0, H0⟩, ⟨%d1, %f1, -, H1⟩, ⟨%d2, %f2, -, H2⟩, ⟨%gl, %hgl, HL⟩, ⟨%gu, %hgu, HU⟩, ⟨%ff0, Hf0, Hrf0⟩, HW, Hk⟩
  obtain rfl := harg2.eq_unread hf0
  sl_exec (disch := first | sl_exact h1 | sl_exact h2 | sl_exact h3 | sl_exact h4 | sl_exact h5 | sl_exact h6)
  sl_step
  iapply Hk
  isplitl [H0]
  · iexists _; isplitr; swap; iexact H0
    ipureintro; exact harg2.read_unread x0
  isplitl [H1]
  · iexists _; isplitr; swap; iexact H1
    ipureintro; exact (View.read_writes_full arg3.view f1 _ _ []).trans (congrArg picks ((logit_load t h3 h4 gl _).trans (congrArg (readSlot t h4) hgl)))
  isplitl [H2]
  · iexists _; isplitr; swap; iexact H2
    ipureintro; exact (View.read_writes_full arg4.view f2 _ _ []).trans (congrArg shares8 ((logit_load t h3 h4 gl _).trans (congrArg (readSlot t h4) hgl)))
  isplitl [HL]
  · iexists _; isplitr; swap; iexact HL
    ipureintro; exact (logit_store t h3 gl _).trans (congrArg₂ (fillSlot t) hgl (congrArg₂ k0_pay1 (slot_load c t h3 _ fh _) (whole_load arg2 harg2 x0 _)))
  isplitl [HU]
  · iexists _; isplitr; swap; iexact HU
    ipureintro; exact (View.read_writes_full useM.view gu _ _ []).trans (congrArg₂ used ((logit_load t h3 h4 gl _).trans (congrArg (readSlot t h4) hgl)) ((View.readAt_full useM.view gu _).trans hgu))
  isplitl [Hf0 Hf0_dst Hf0_src Hrf0]
  · isplitl [Hf0]; · iexact Hf0
    iexists _; isplitl [Hf0_dst]; · iexact Hf0_dst
    iapply (share_split c fh (Ring.sl 3 t.val) (Ring.bk 16 t.val)).2
    isplitl [Hf0_src]; · iexact Hf0_src
    iexact Hrf0
  iexists _; iexact HW

end Cert.KernelIdeal.Router

end
-- ==== Proof.Ideal.RunsD.lean ====
/- The body at one kind of point of the grid, run through. -/
module

public import proofs.«01_k».proof.Proof.Ideal.Values

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The last point: the last block is routed and the loss written. -/
theorem run_last (c : Dev nD) (t : Fin cfg0.N) (arg2 : Memref sig .tc .vmem S4096x64 .f32) (harg2 : arg2.IsWhole)
    (arg3 : Memref sig .tc .vmem S1024x8 .i32) (harg3 : arg3.IsWhole) (arg4 : Memref sig .tc .vmem S1024x8 .f32) (harg4 : arg4.IsWhole)
    (arg5 : Memref sig .tc .vmem S1x1 .f32) (harg5 : arg5.IsWhole)
    (h1 : ¬ primes (grid0.coords t)) (h2 : ¬ ahead (grid0.coords t)) (h3 : ¬ feeds (grid0.coords t)) (h4 : routes (grid0.coords t)) (h5 : ¬ clears (grid0.coords t)) (h6 : closes (grid0.coords t))
    (x0 : Vec F S4096x64 .f32) (fh : Held (F := F) c xM) (fl : Vec F S2x1024x64 .f32) (fu : Vec F S1x64 .f32)
    (W : Waits sig Unit) (K : PUnit → sProp 𝕄) :
        iprop(owns (c : Thread nD τ) arg2 fullShare x0 ∗ (∃ d, owns (c : Thread nD τ) arg3 fullShare d)
            ∗ (∃ d, owns (c : Thread nD τ) arg4 fullShare d)
            ∗ (∃ d, owns (c : Thread nD τ) arg5 fullShare d)
            ∗ owns (c : Thread nD τ) logM fullShare fl
            ∗ owns (c : Thread nD τ) useM fullShare fu ∗ owes (c : Thread nD τ) 0 W
            ∗ (iprop(owns (c : Thread nD τ) arg2 fullShare x0 ∗ owns (c : Thread nD τ) arg3 fullShare (picks (readSlot t h4 fl))
            ∗ owns (c : Thread nD τ) arg4 fullShare (shares8 (readSlot t h4 fl))
            ∗ owns (c : Thread nD τ) arg5 fullShare (k0_pay7 (used (readSlot t h4 fl) fu))
            ∗ owns (c : Thread nD τ) logM fullShare fl
            ∗ owns (c : Thread nD τ) useM fullShare (used (readSlot t h4 fl) fu) ∗ (∃ W', owes (c : Thread nD τ) 0 W')) -∗ K ⟨⟩))
          ⊢ wp frame (wpE (defs₀ (F := F)) Variants.none c none) Set.univ (cc0__router_block (grid0.coords t) xM (Memref.isWhole_whole _) arg2 harg2 arg3 harg3 arg4 harg4 arg5 harg5 ringM (Memref.isWhole_whole _) logM (Memref.isWhole_whole _) useM (Memref.isWhole_whole _) cc0_scratch3) K := by
  haveI : Fact (¬ primes (grid0.coords t)) := ⟨h1⟩
  haveI : Fact (¬ ahead (grid0.coords t)) := ⟨h2⟩
  haveI : Fact (¬ feeds (grid0.coords t)) := ⟨h3⟩
  simp only [cc0__router_block_eq_skeleton]; unfold cc0__router_block_skel
  simp (config := { proj := false }) only [k0_part1_eq_skeleton, k0_part2_eq_skeleton]
  unfold owns
  iintro ⟨⟨%f0, %hf0, H0⟩, ⟨%d1, %f1, -, H1⟩, ⟨%d2, %f2, -, H2⟩, ⟨%d3, %f3, -, H3⟩, ⟨%gl, %hgl, HL⟩, ⟨%gu, %hgu, HU⟩, HW, Hk⟩
  obtain rfl := harg2.eq_unread hf0
  sl_exec (disch := first | sl_exact h1 | sl_exact h2 | sl_exact h3 | sl_exact h4 | sl_exact h5 | sl_exact h6)
  sl_step
  iapply Hk
  isplitl [H0]
  · iexists _; isplitr; swap; iexact H0
    ipureintro; exact harg2.read_unread x0
  isplitl [H1]
  · iexists _; isplitr; swap; iexact H1
    ipureintro; exact (View.read_writes_full arg3.view f1 _ _ []).trans (congrArg picks ((logit_load_alone t h4 gl).trans (congrArg (readSlot t h4) hgl)))
  isplitl [H2]
  · iexists _; isplitr; swap; iexact H2
    ipureintro; exact (View.read_writes_full arg4.view f2 _ _ []).trans (congrArg shares8 ((logit_load_alone t h4 gl).trans (congrArg (readSlot t h4) hgl)))
  isplitl [H3]
  · iexists _; isplitr; swap; iexact H3
    ipureintro; exact (View.read_writes_full arg5.view f3 _ _ []).trans (congrArg k0_pay7 ((View.readCov_full useM.view _ _ _ []).trans (congrArg₂ used ((logit_load_alone t h4 gl).trans (congrArg (readSlot t h4) hgl)) ((View.readAt_full useM.view gu _).trans hgu))))
  isplitl [HL]
  · iexists _; isplitr; swap; iexact HL
    ipureintro; exact hgl
  isplitl [HU]
  · iexists _; isplitr; swap; iexact HU
    ipureintro; exact (View.read_writes_full useM.view gu _ _ []).trans (congrArg₂ used ((logit_load_alone t h4 gl).trans (congrArg (readSlot t h4) hgl)) ((View.readAt_full useM.view gu _).trans hgu))
  iexists W; iexact HW

end Cert.KernelIdeal.Router

end
-- ==== Proof.Ideal.Run.lean ====
/- The kernel's run: the invariant that is carried from point to point, the body obligation, and the launch, with what
   every array and every semaphore counter holds when it ends. -/
module

public import proofs.«01_k».proof.Proof.Ideal.RunsA
public import proofs.«01_k».proof.Proof.Ideal.RunsB
public import proofs.«01_k».proof.Proof.Ideal.RunsB1
public import proofs.«01_k».proof.Proof.Ideal.RunsC
public import proofs.«01_k».proof.Proof.Ideal.RunsD

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is computed, point by point -/

/-- The expert weights, one column per expert, as the pipeline stages them. -/
abbrev wts (c : Dev nD) : Vec F S4096x64 .f32 := V m c main_v1
/-- The logits of block `n`. -/
def logitsOf (c : Dev nD) (n : ℕ) : Vec F S1x1024x64 .f32 := k0_pay1 (tokens c (V m c main_v0) (Ring.bk 16 n)) (wts m c)
/-- The usage sums of the first `n` blocks. -/
def usage (c : Dev nD) : ℕ → Vec F S1x64 .f32
  | 0 => k0_pay5 (F := F)
  | n + 1 => used (logitsOf m c n) (usage c n)

/-- The weights' window shows all of them at every point. -/
theorem iblk_0 (c : Dev nD) (t : Fin cfg0.N) : iblk m c 0 t = wts m c := by
  funext j
  show V m c main_v1 _ = V m c main_v1 j
  refine congrArg (V m c main_v1) (funext fun a => Fin.ext ?_)
  fin_cases a <;> exact Nat.zero_add _ |>.trans (Nat.one_mul _)

/-! ## The invariant -/

/-- The logits buffer before point `k`: its slot to be read holds the block before. -/
def logState (c : Dev nD) (k : ℕ) : sProp 𝕄 :=
  iprop(∃ f, owns (c : Thread nD τ) logM fullShare f ∗ ⌜1 ≤ k → ∀ (t : Fin cfg0.N) (h : routes (grid0.coords t)), t.val = k → readSlot t h f = logitsOf m c (k - 1)⌝)
/-- The usage sums before point `k`. -/
def useState (c : Dev nD) (k : ℕ) : sProp 𝕄 :=
  iprop(∃ u, owns (c : Thread nD τ) useM fullShare u ∗ ⌜2 ≤ k → u = usage m c (k - 1)⌝)
/-- What is carried into point `k`. -/
def carried (c : Dev nD) (k : ℕ) : sProp 𝕄 :=
  iprop((∃ r, prngReg c r) ∗ ringBefore c (V m c main_v0) (min k 16) ∗ logState m c k ∗ useState m c k)

/-- The proof data of the launch. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => picks (logitsOf m c (t.val - 1))
    | ⟨2, _⟩ => shares8 (logitsOf m c (t.val - 1))
    | ⟨3, _⟩ => k0_pay7 (usage m c 16)
  Φ t := carried m c t.val
  q _ := fullShare
  owed _ := 0

theorem A_eq (c : Dev nD) (w : Fin cfg0.W) : (dats m 0 c).A w = V m c (Pipeline.arrRef spec0 w) := by
  dsimp only [dats]
theorem carried_castSucc (c : Dev nD) (t : Fin cfg0.N) : (dats m 0 c).Φ t.castSucc = carried m c t.val := by
  dsimp only [dats]; simp only [Fin.val_castSucc]
theorem carried_succ (c : Dev nD) (t : Fin cfg0.N) : (dats m 0 c).Φ t.succ = carried m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = picks (logitsOf m c (t.val - 1)) := by dsimp only [dats]
theorem after_2 (c : Dev nD) (t : Fin cfg0.N) : (dats m 0 c).after 2 t = shares8 (logitsOf m c (t.val - 1)) := by dsimp only [dats]
theorem after_3 (c : Dev nD) (t : Fin cfg0.N) : (dats m 0 c).after 3 t = k0_pay7 (usage m c 16) := by dsimp only [dats]
theorem before_0 (c : Dev nD) (t : Fin cfg0.N) (d) : (dats m 0 c).before 0 t d = wts m c := by
  refine ((dats m 0 c).before_in_eq_fetched 0 rfl (fun _ => rfl) (fun _ _ _ => rfl) (fun t => ?_) t d).trans ?_
  · rw [after_0]; unfold Dat.blockOf iblk; rw [A_eq]; try rfl
  · rw [← iblk_0 m c t]; unfold Dat.fetched Dat.blockOf iblk; rw [A_eq]; try rfl

/-! ## The body obligation -/

/-- What window `w` is left at. -/
def leftAt (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem idle_1 : ∀ t : Fin cfg0.N, cfg0.idle 1 (cfg0.grid.coords t) = decide (t.val = 0) :=
  (by decide +kernel : ∀ t : Fin grid0.N, idle0 1 (grid0.coords t) = decide (t.val = 0))
theorem idle_2 : ∀ t : Fin cfg0.N, cfg0.idle 2 (cfg0.grid.coords t) = decide (t.val = 0) :=
  (by decide +kernel : ∀ t : Fin grid0.N, idle0 2 (grid0.coords t) = decide (t.val = 0))
theorem idle_3 : ∀ t : Fin cfg0.N, cfg0.idle 3 (cfg0.grid.coords t) = decide (t.val < 16) :=
  (by decide +kernel : ∀ t : Fin grid0.N, idle0 3 (grid0.coords t) = decide (t.val < 16))
/-- The first two outputs are written back at points 1 to 16. -/
theorem flush_1 : ∀ t : Fin cfg0.N, (cfg0.win 1).flush t = true ↔ 1 ≤ t.val :=
  (by decide +kernel : ∀ t : Fin grid0.N, win0_1.flush t = true ↔ 1 ≤ t.val)
theorem flush_2 : ∀ t : Fin cfg0.N, (cfg0.win 2).flush t = true ↔ 1 ≤ t.val :=
  (by decide +kernel : ∀ t : Fin grid0.N, win0_2.flush t = true ↔ 1 ≤ t.val)
theorem flush_3_iff (t : Fin cfg0.N) : (cfg0.win 3).flush t = true ↔ t.val = 16 := by
  rw [flush0_3]; have : t.val < 17 := lt_of_lt_of_eq t.isLt (show cfg0.N = 17 from N_0); omega

theorem leftAt_0 (c : Dev nD) (t : Fin cfg0.N) : leftAt m c t 0 = owns (c : Thread nD τ) (wtM t) fullShare (wts m c) := by
  rw [← iblk_0 m c t]; rfl
theorem leftAt_1 (c : Dev nD) (t : Fin cfg0.N) (h : 1 ≤ t.val) :
    leftAt m c t 1 = owns (c : Thread nD τ) (idxM t) fullShare (picks (logitsOf m c (t.val - 1))) := by
  unfold leftAt; rw [idle_1, decide_eq_false (by omega)]; rfl
theorem leftAt_2 (c : Dev nD) (t : Fin cfg0.N) (h : 1 ≤ t.val) :
    leftAt m c t 2 = owns (c : Thread nD τ) (wgtM t) fullShare (shares8 (logitsOf m c (t.val - 1))) := by
  unfold leftAt; rw [idle_2, decide_eq_false (by omega)]; rfl
theorem leftAt_3 (c : Dev nD) (t : Fin cfg0.N) (h : t.val = 16) :
    leftAt m c t 3 = owns (c : Thread nD τ) (auxM t) fullShare (k0_pay7 (usage m c 16)) := by
  unfold leftAt; rw [idle_3, decide_eq_false (by omega)]; rfl
theorem leftAt_1_idle (c : Dev nD) (t : Fin cfg0.N) (h : t.val = 0) :
    leftAt m c t 1 = iprop(∃ d, owns (c : Thread nD τ) (idxM t) fullShare ((dats m 0 c).before 1 t d)) := by
  unfold leftAt; rw [idle_1, decide_eq_true h, Bool.eq_false_iff.mpr (fun e : (cfg0.win 1).flush t = true => by have := (flush_1 t).mp e; omega)]
theorem leftAt_2_idle (c : Dev nD) (t : Fin cfg0.N) (h : t.val = 0) :
    leftAt m c t 2 = iprop(∃ d, owns (c : Thread nD τ) (wgtM t) fullShare ((dats m 0 c).before 2 t d)) := by
  unfold leftAt; rw [idle_2, decide_eq_true h, Bool.eq_false_iff.mpr (fun e : (cfg0.win 2).flush t = true => by have := (flush_2 t).mp e; omega)]
theorem leftAt_3_idle (c : Dev nD) (t : Fin cfg0.N) (h : t.val < 16) :
    leftAt m c t 3 = iprop(∃ d, owns (c : Thread nD τ) (auxM t) fullShare ((dats m 0 c).before 3 t d)) := by
  unfold leftAt; rw [idle_3, decide_eq_true h, Bool.eq_false_iff.mpr (fun e : (cfg0.win 3).flush t = true => by have := (flush_3_iff t).mp e; omega)]

def bodyPre (c : Dev nD) (t : Fin cfg0.N) : sProp 𝕄 :=
  iprop((dats m 0 c).Φ t.castSucc ∗ (dats m 0 c).owesAt () t.castSucc
    ∗ (∃ d, owns (c : Thread nD τ) (wtM t) fullShare ((dats m 0 c).before 0 t d))
    ∗ (∃ d, owns (c : Thread nD τ) (idxM t) fullShare ((dats m 0 c).before 1 t d))
    ∗ (∃ d, owns (c : Thread nD τ) (wgtM t) fullShare ((dats m 0 c).before 2 t d))
    ∗ (∃ d, owns (c : Thread nD τ) (auxM t) fullShare ((dats m 0 c).before 3 t d)))

def bodyPost (c : Dev nD) (t : Fin cfg0.N) : sProp 𝕄 :=
  iprop((dats m 0 c).Φ t.succ ∗ (dats m 0 c).owesAt () t.succ
    ∗ leftAt m c t 0 ∗ leftAt m c t 1 ∗ leftAt m c t 2 ∗ leftAt m c t 3)

set_option maxHeartbeats 1200000 in
/-- The body's triple at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0]
  rw [carried_castSucc m c t, carried_succ m c t]
  unfold Dat.owesAt Pipeline.owesWithin
  rw [show (dats m 0 c).owed t.castSucc = 0 from rfl, show (dats m 0 c).owed t.succ = 0 from rfl]
  unfold carried ringBefore
  have h1 : primes (grid0.coords t) := (primes_iff t).mpr (by omega)
  have h2 : ¬ ahead (grid0.coords t) := fun h => by have := (ahead_iff t).mp h; omega
  have h3 : feeds (grid0.coords t) := (feeds_iff t).mpr (by omega)
  have h4 : ¬ routes (grid0.coords t) := fun h => by have := (routes_iff t).mp h; omega
  have h5 : ¬ clears (grid0.coords t) := fun h => by have := (clears_iff t).mp h; omega
  have h6 : ¬ closes (grid0.coords t) := fun h => by have := (closes_iff t).mp h; omega
  rw [show min t.val 16 = t.val by omega, show min (t.val + 1) 16 = t.val + 1 by omega, if_pos ht, if_neg (show ¬t.val + 1 = 0 by omega)]
  rw [Ring.At₀_eq3' _ _ _ t.val ht (by decide : 3 ≤ 16), Ring.At3_one' _ _ _ _ t.val ht (by decide : 3 ≤ 16)]
  rw [leftAt_0, leftAt_1_idle m c t ht, leftAt_2_idle m c t ht, leftAt_3_idle m c t (by omega)]
  unfold logState useState
  iintro ⟨⟨Hg, ⟨-, Hr0, Hr1, Hr2⟩, ⟨%fl, HL, %hl⟩, ⟨%fu, HU, %hu⟩⟩, ⟨%W, -, HW⟩, ⟨%d0, H0⟩, H1, H2, H3⟩
  iapply (run_first c t _ (wtH t) _ (idxH t) _ (wgtH t) _ (auxH t) h1 h2 h3 h4 h6 ht (wts m c) (V m c main_v0) W _)
  isplitl [H0]; · iexact H0
  isplitl [HL]; · iexists _; iexact HL
  isplitl [Hr0]; · iexact Hr0
  isplitl [Hr1]; · iexact Hr1
  isplitl [Hr2]; · iexact Hr2
  isplitl [HW]; · iexact HW
  iintro ⟨H0, ⟨%fl', HL⟩, Ha, Hb, Hc, ⟨%W', HW'⟩⟩
  isplitl [Hg HL HU Ha Hb Hc]
  · isplitl [Hg]; · iexact Hg
    isplitl [Ha Hb Hc]
    · iapply (Ring.with_homes (Idealize.SL.BI.Entails.refl _))
      isplitl [Ha]; · iexact Ha
      isplitl [Hb]; · iexact Hb
      iexact Hc
    isplitl [HL]
    · iexists _; isplitl [HL]; · iexact HL
      ipureintro
      intro _ t' h' e; exact readSlot_fill_next t t' e h' _ _
    · iexists _; isplitl [HU]; · iexact HU
      ipureintro
      intro h; omega
  isplitl [HW']
  · iexists W'; isplitr; · ipureintro; exact fun _ _ => Or.inl trivial
    iexact HW'
  isplitl [H0]; · iexact H0
  isplitl [H1]; · iexact H1
  isplitl [H2]; · iexact H2
  iexact H3

set_option maxHeartbeats 1200000 in
/-- The body's triple at the second point. -/
theorem sound_second (c : Dev nD) (t : Fin cfg0.N) (ht : t.val = 1) :
    bodyPre m c t ⊢ wp frame (wpE (defs₀ (F := F)) Variants.none c none) Set.univ (bodyAt0 t) (fun _ => bodyPost m c t) := by
  unfold bodyPre bodyPost bodyAt0
  simp only [before_0]
  rw [carried_castSucc m c t, carried_succ m c t]
  unfold Dat.owesAt Pipeline.owesWithin
  rw [show (dats m 0 c).owed t.castSucc = 0 from rfl, show (dats m 0 c).owed t.succ = 0 from rfl]
  unfold carried ringBefore
  have h1 : ¬ primes (grid0.coords t) := fun h => by have := (primes_iff t).mp h; omega
  have h2 : ahead (grid0.coords t) := (ahead_iff t).mpr (by omega)
  have h3 : feeds (grid0.coords t) := (feeds_iff t).mpr (by omega)
  have h4 : routes (grid0.coords t) := (routes_iff t).mpr (by omega)
  have h5 : clears (grid0.coords t) := (clears_iff t).mpr (by omega)
  have h6 : ¬ closes (grid0.coords t) := fun h => by have := (closes_iff t).mp h; omega
  rw [show min t.val 16 = t.val by omega, show min (t.val + 1) 16 = t.val + 1 by omega, if_neg (show ¬t.val = 0 by omega), if_neg (show ¬t.val + 1 = 0 by omega)]
  rw [Ring.At3_here _ _ _ _ t.val (by omega : t.val + 2 < 16), Ring.At3_next _ _ _ _ t.val (by omega : t.val + 2 < 16), Ring.slotAt3_next0 _ _ _ t.val (by omega), Ring.slotAt3_next1 _ _ _ t.val (by omega)]
  rw [leftAt_0, leftAt_1 m c t (by omega), leftAt_2 m c t (by omega), leftAt_3_idle m c t (by omega)]
  unfold logState useState
  iintro ⟨⟨Hg, ⟨-, Hr0, Hr1, Hr2⟩, ⟨%fl, HL, %hl⟩, ⟨%fu, HU, %hu⟩⟩, ⟨%W, -, HW⟩, ⟨%d0, H0⟩, H1, H2, H3⟩
  have hv : readSlot t h4 fl = logitsOf m c (t.val - 1) := hl (by omega) t h4 rfl
  iapply (run_second c t _ (wtH t) _ (idxH t) _ (wgtH t) _ (auxH t) h1 h2 h3 h4 h5 h6 (wts m c) (V m c main_v0) fl W _)
  isplitl [H0]; · iexact H0
  isplitl [H1]
  · icases H1 with ⟨%d1, H1⟩; iexists _; iexact H1
  isplitl [H2]
  · icases H2 with ⟨%d2, H2⟩; iexists _; iexact H2
  isplitl [HL]; · iexact HL
  isplitl [HU]; · iexists _; iexact HU
  isplitl [Hr0]; · iexact Hr0
  isplitl [Hr1]; · iexact Hr1
  isplitl [Hr2]; · iexact Hr2
  isplitl [HW]; · iexact HW
  iintro ⟨H0, H1, H2, HL, HU, Ha, Hb, Hc, ⟨%W', HW'⟩⟩
  rw [hv]
  isplitl [Hg HL HU Ha Hb Hc]
  · isplitl [Hg]; · iexact Hg
    isplitl [Ha Hb Hc]
    · iapply (Ring.with_homes (Idealize.SL.BI.Entails.refl _))
      isplitl [Ha]; · iexact Ha
      isplitl [Hb]; · iexact Hb
      iexact Hc
    isplitl [HL]
    · iexists _; isplitl [HL]; · iexact HL
      ipureintro
      intro _ t' h' e; exact readSlot_fill_next t t' e h' _ _
    · iexists _; isplitl [HU]; · iexact HU
      ipureintro
      intro _
      obtain ⟨k, hk⟩ : ∃ k, t.val = k + 1 := ⟨t.val - 1, by omega⟩
      simp only [hk, Nat.add_sub_cancel]
      obtain rfl : k = 0 := by omega
      rfl
  isplitl [HW']
  · iexists W'; isplitr; · ipureintro; exact fun _ _ => Or.inl trivial
    iexact HW'
  isplitl [H0]; · iexact H0
  isplitl [H1]; · iexact H1
  isplitl [H2]; · iexact H2
  iexact H3

set_option maxHeartbeats 1200000 in
/-- The body's triple at the points 2 to 13. -/
theorem sound_steady (c : Dev nD) (t : Fin cfg0.N) (ht : 2 ≤ t.val ∧ t.val ≤ 13) :
    bodyPre m c t ⊢ wp frame (wpE (defs₀ (F := F)) Variants.none c none) Set.univ (bodyAt0 t) (fun _ => bodyPost m c t) := by
  unfold bodyPre bodyPost bodyAt0
  simp only [before_0]
  rw [carried_castSucc m c t, carried_succ m c t]
  unfold Dat.owesAt Pipeline.owesWithin
  rw [show (dats m 0 c).owed t.castSucc = 0 from rfl, show (dats m 0 c).owed t.succ = 0 from rfl]
  unfold carried ringBefore
  have h1 : ¬ primes (grid0.coords t) := fun h => by have := (primes_iff t).mp h; omega
  have h2 : ahead (grid0.coords t) := (ahead_iff t).mpr (by omega)
  have h3 : feeds (grid0.coords t) := (feeds_iff t).mpr (by omega)
  have h4 : routes (grid0.coords t) := (routes_iff t).mpr (by omega)
  have h5 : ¬ clears (grid0.coords t) := fun h => by have := (clears_iff t).mp h; omega
  have h6 : ¬ closes (grid0.coords t) := fun h => by have := (closes_iff t).mp h; omega
  rw [show min t.val 16 = t.val by omega, show min (t.val + 1) 16 = t.val + 1 by omega, if_neg (show ¬t.val = 0 by omega), if_neg (show ¬t.val + 1 = 0 by omega)]
  rw [Ring.At3_here _ _ _ _ t.val (by omega : t.val + 2 < 16), Ring.At3_next _ _ _ _ t.val (by omega : t.val + 2 < 16), Ring.slotAt3_next0 _ _ _ t.val (by omega), Ring.slotAt3_next1 _ _ _ t.val (by omega)]
  rw [leftAt_0, leftAt_1 m c t (by omega), leftAt_2 m c t (by omega), leftAt_3_idle m c t (by omega)]
  unfold logState useState
  iintro ⟨⟨Hg, ⟨-, Hr0, Hr1, Hr2⟩, ⟨%fl, HL, %hl⟩, ⟨%fu, HU, %hu⟩⟩, ⟨%W, -, HW⟩, ⟨%d0, H0⟩, H1, H2, H3⟩
  have hv : readSlot t h4 fl = logitsOf m c (t.val - 1) := hl (by omega) t h4 rfl
  obtain rfl := hu (by omega)
  iapply (run_steady c t _ (wtH t) _ (idxH t) _ (wgtH t) _ (auxH t) h1 h2 h3 h4 h5 h6 (wts m c) (V m c main_v0) fl _ W _)
  isplitl [H0]; · iexact H0
  isplitl [H1]
  · icases H1 with ⟨%d1, H1⟩; iexists _; iexact H1
  isplitl [H2]
  · icases H2 with ⟨%d2, H2⟩; iexists _; iexact H2
  isplitl [HL]; · iexact HL
  isplitl [HU]; · iexact HU
  isplitl [Hr0]; · iexact Hr0
  isplitl [Hr1]; · iexact Hr1
  isplitl [Hr2]; · iexact Hr2
  isplitl [HW]; · iexact HW
  iintro ⟨H0, H1, H2, HL, HU, Ha, Hb, Hc, ⟨%W', HW'⟩⟩
  rw [hv]
  isplitl [Hg HL HU Ha Hb Hc]
  · isplitl [Hg]; · iexact Hg
    isplitl [Ha Hb Hc]
    · iapply (Ring.with_homes (Idealize.SL.BI.Entails.refl _))
      isplitl [Ha]; · iexact Ha
      isplitl [Hb]; · iexact Hb
      iexact Hc
    isplitl [HL]
    · iexists _; isplitl [HL]; · iexact HL
      ipureintro
      intro _ t' h' e; exact readSlot_fill_next t t' e h' _ _
    · iexists _; isplitl [HU]; · iexact HU
      ipureintro
      intro _
      obtain ⟨k, hk⟩ : ∃ k, t.val = k + 1 := ⟨t.val - 1, by omega⟩
      simp only [hk, Nat.add_sub_cancel]
      rfl
  isplitl [HW']
  · iexists W'; isplitr; · ipureintro; exact fun _ _ => Or.inl trivial
    iexact HW'
  isplitl [H0]; · iexact H0
  isplitl [H1]; · iexact H1
  isplitl [H2]; · iexact H2
  iexact H3

set_option maxHeartbeats 1200000 in
/-- The body's triple at the points 14 and 15. -/
theorem sound_late (c : Dev nD) (t : Fin cfg0.N) (ht : 14 ≤ t.val ∧ t.val ≤ 15) :
    bodyPre m c t ⊢ wp frame (wpE (defs₀ (F := F)) Variants.none c none) Set.univ (bodyAt0 t) (fun _ => bodyPost m c t) := by
  unfold bodyPre bodyPost bodyAt0
  simp only [before_0]
  rw [carried_castSucc m c t, carried_succ m c t]
  unfold Dat.owesAt Pipeline.owesWithin
  rw [show (dats m 0 c).owed t.castSucc = 0 from rfl, show (dats m 0 c).owed t.succ = 0 from rfl]
  unfold carried ringBefore
  have h1 : ¬ primes (grid0.coords t) := fun h => by have := (primes_iff t).mp h; omega
  have h2 : ¬ ahead (grid0.coords t) := fun h => by have := (ahead_iff t).mp h; omega
  have h3 : feeds (grid0.coords t) := (feeds_iff t).mpr (by omega)
  have h4 : routes (grid0.coords t) := (routes_iff t).mpr (by omega)
  have h5 : ¬ clears (grid0.coords t) := fun h => by have := (clears_iff t).mp h; omega
  have h6 : ¬ closes (grid0.coords t) := fun h => by have := (closes_iff t).mp h; omega
  rw [show min t.val 16 = t.val by omega, show min (t.val + 1) 16 = t.val + 1 by omega, if_neg (show ¬t.val = 0 by omega), if_neg (show ¬t.val + 1 = 0 by omega)]
  rw [Ring.At3_here_tail _ _ _ _ t.val (by omega : t.val < 16), Ring.At3_next_tail _ _ _ _ t.val (by omega : 16 ≤ t.val + 2) (by omega : t.val < 16), Ring.slotAt3_tail_role _ _ _ t.val]
  rw [leftAt_0, leftAt_1 m c t (by omega), leftAt_2 m c t (by omega), leftAt_3_idle m c t (by omega)]
  unfold logState useState
  iintro ⟨⟨Hg, ⟨-, Hr0, Hr1, Hr2⟩, ⟨%fl, HL, %hl⟩, ⟨%fu, HU, %hu⟩⟩, ⟨%W, -, HW⟩, ⟨%d0, H0⟩, H1, H2, H3⟩
  have hv : readSlot t h4 fl = logitsOf m c (t.val - 1) := hl (by omega) t h4 rfl
  obtain rfl := hu (by omega)
  iapply (run_late c t _ (wtH t) _ (idxH t) _ (wgtH t) _ (auxH t) h1 h2 h3 h4 h5 h6 (wts m c) (V m c main_v0) fl _ W _)
  isplitl [H0]; · iexact H0
  isplitl [H1]
  · icases H1 with ⟨%d1, H1⟩; iexists _; iexact H1
  isplitl [H2]
  · icases H2 with ⟨%d2, H2⟩; iexists _; iexact H2
  isplitl [HL]; · iexact HL
  isplitl [HU]; · iexact HU
  isplitl [Hr0]; · iexact Hr0
  isplitl [HW]; · iexact HW
  iintro ⟨H0, H1, H2, HL, HU, Hc, ⟨%W', HW'⟩⟩
  rw [hv]
  isplitl [Hg HL HU Hr1 Hc Hr2]
  · isplitl [Hg]; · iexact Hg
    isplitl [Hr1 Hc Hr2]
    · iapply (Ring.with_homes (Idealize.SL.BI.Entails.refl _))
      isplitl [Hr1]; · iexact Hr1
      isplitl [Hr2]; · iexact Hr2
      iexact Hc
    isplitl [HL]
    · iexists _; isplitl [HL]; · iexact HL
      ipureintro
      intro _ t' h' e; exact readSlot_fill_next t t' e h' _ _
    · iexists _; isplitl [HU]; · iexact HU
      ipureintro
      intro _
      obtain ⟨k, hk⟩ : ∃ k, t.val = k + 1 := ⟨t.val - 1, by omega⟩
      simp only [hk, Nat.add_sub_cancel]
      rfl
  isplitl [HW']
  · iexists W'; isplitr; · ipureintro; exact fun _ _ => Or.inl trivial
    iexact HW'
  isplitl [H0]; · iexact H0
  isplitl [H1]; · iexact H1
  isplitl [H2]; · iexact H2
  iexact H3

set_option maxHeartbeats 1200000 in
/-- The body's triple at the last point. -/
theorem sound_last (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  simp only [before_0]
  rw [carried_castSucc m c t, carried_succ m c t]
  unfold Dat.owesAt Pipeline.owesWithin
  rw [show (dats m 0 c).owed t.castSucc = 0 from rfl, show (dats m 0 c).owed t.succ = 0 from rfl]
  unfold carried ringBefore
  have h1 : ¬ primes (grid0.coords t) := fun h => by have := (primes_iff t).mp h; omega
  have h2 : ¬ ahead (grid0.coords t) := fun h => by have := (ahead_iff t).mp h; omega
  have h3 : ¬ feeds (grid0.coords t) := fun h => by have := (feeds_iff t).mp h; omega
  have h4 : routes (grid0.coords t) := (routes_iff t).mpr (by omega)
  have h5 : ¬ clears (grid0.coords t) := fun h => by have := (clears_iff t).mp h; omega
  have h6 : closes (grid0.coords t) := (closes_iff t).mpr (by omega)
  rw [show min t.val 16 = 16 by omega, show min (t.val + 1) 16 = 16 by omega]
  rw [leftAt_0, leftAt_1 m c t (by omega), leftAt_2 m c t (by omega), leftAt_3 m c t ht]
  unfold logState useState
  iintro ⟨⟨Hg, HR, ⟨%fl, HL, %hl⟩, ⟨%fu, HU, %hu⟩⟩, ⟨%W, -, HW⟩, ⟨%d0, H0⟩, H1, H2, H3⟩
  have hv : readSlot t h4 fl = logitsOf m c (t.val - 1) := hl (by omega) t h4 rfl
  obtain rfl := hu (by omega)
  iapply (run_last c t _ (wtH t) _ (idxH t) _ (wgtH t) _ (auxH t) h1 h2 h3 h4 h5 h6 (wts m c) (V m c main_v0) fl _ W _)
  isplitl [H0]; · iexact H0
  isplitl [H1]
  · icases H1 with ⟨%d1, H1⟩; iexists _; iexact H1
  isplitl [H2]
  · icases H2 with ⟨%d2, H2⟩; iexists _; iexact H2
  isplitl [H3]
  · icases H3 with ⟨%d3, H3⟩; iexists _; iexact H3
  isplitl [HL]; · iexact HL
  isplitl [HU]; · iexact HU
  isplitl [HW]; · iexact HW
  iintro ⟨H0, H1, H2, H3, HL, HU, ⟨%W', HW'⟩⟩
  rw [hv]
  isplitl [Hg HL HU HR]
  · isplitl [Hg]; · iexact Hg
    isplitl [HR]; · iexact HR
    isplitl [HL]
    · iexists _; isplitl [HL]; · iexact HL
      ipureintro
      intro _ t' h' e; have := lt_of_lt_of_eq t'.isLt (show cfg0.N = 17 from N_0); omega
    · iexists _; isplitl [HU]; · iexact HU
      ipureintro
      intro _
      obtain ⟨k, hk⟩ : ∃ k, t.val = k + 1 := ⟨t.val - 1, by omega⟩
      simp only [hk, Nat.add_sub_cancel]
      rfl
  isplitl [HW']
  · iexists W'; isplitr; · ipureintro; exact fun _ _ => Or.inl trivial
    iexact HW'
  isplitl [H0]; · iexact H0
  isplitl [H1]; · iexact H1
  isplitl [H2]; · iexact H2
  rw [show t.val - 1 = 15 by omega]; iexact H3

/-- The body's triple at every point. -/
theorem sound_body (c : Dev nD) (t : Fin cfg0.N) :
    bodyPre m c t ⊢ wp frame (wpE (defs₀ (F := F)) Variants.none c none) Set.univ (bodyAt0 t) (fun _ => bodyPost m c t) := by
  have hN : t.val < 17 := lt_of_lt_of_eq t.isLt (show cfg0.N = 17 from N_0)
  by_cases e0 : t.val = 0
  · exact sound_first m c t e0
  by_cases e1 : t.val = 1
  · exact sound_second m c t e1
  by_cases e2 : t.val ≤ 13
  · exact sound_steady m c t ⟨by omega, e2⟩
  by_cases e3 : t.val ≤ 15
  · exact sound_late m c t ⟨by omega, e3⟩
  · exact sound_last m c t (by omega)

/-- The body table's row at a point is the body there. -/
theorem body_row (t : Fin cfg0.N) : defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- What the launch hands over is what is carried into the first point. -/
theorem enters (c : Dev nD) : Pipeline.ΦD ownCell spec0 moved (V m) c ⊢ (dats m 0 c).Φ 0 := by
  rw [handed_eq, show (dats m 0 c).Φ 0 = carried m c 0 from rfl]
  unfold carried logState useState
  iintro ⟨⟨HR, ⟨%l, HL⟩, ⟨%u, HU⟩⟩, Hg, Hc, HX⟩
  isplitl [Hg]; · iexact Hg
  isplitl [HR Hc HX]
  · iapply (ring_enter c (V m c main_v0))
    isplitl [HR]; · iexact HR
    isplitl [Hc]; · iexact Hc
    iexact HX
  isplitl [HL]
  · iexists l; isplitl [HL]; · iexact HL
    ipureintro; intro h; omega
  · iexists u; isplitl [HU]; · iexact HU
    ipureintro; intro h; omega
/-- What is carried out of the last point is what the launch takes back. -/
theorem leaves (c : Dev nD) : (dats m 0 c).Φ (Fin.last cfg0.N) ⊢ Pipeline.ΦD ownCell spec0 moved (V m) c := by
  rw [handed_eq, show (dats m 0 c).Φ (Fin.last cfg0.N) = carried m c grid0.N from rfl, show grid0.N = 17 from N_0]
  unfold carried logState useState
  rw [show min 17 16 = 16 from rfl]
  iintro ⟨Hg, HR, ⟨%l, HL, -⟩, ⟨%u, HU, -⟩⟩
  ihave HX := (ring_leave c (V m c main_v0)) $$ HR
  icases HX with ⟨HR, Hc, HX⟩
  isplitl [HR HL HU]
  · isplitl [HR]; · iexact HR
    isplitl [HL]; · iexists l; iexact HL
    iexists u; iexact HU
  isplitl [Hg]; · iexact Hg
  isplitl [Hc]; · iexact Hc
  iexact HX

/-- The host lines around the region. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
set_option maxHeartbeats 800000 in
/-- The run of the program: it ends, every array is at what the proof data say, the lines after the region have run, and
    every semaphore counter is at zero. -/
theorem runs : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownCell defs₀ Variants.none ownCell_facts moved moved_sub m ρ main
    (hbody := fun c => (body_obligation m c).loose) (hshare := fun c => (dats m 0 c).share_full fun _ => rfl)
    (howed := fun _ _ => rfl) (V₀ := V0 m) (opss := [hostOps1]) (hsub := later_but) (hfresh := sfx_fresh) (hkeep := sfx_keeps)
    (hmain := main_around m) (hA := A_eq m) (hin := enters m) (hout := leaves m)

/-! ## The frame -/

/-- The host lines after the region leave the tokens as launched. -/
theorem tail_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- And the weights. -/
theorem tail_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The frame: the program ends, with its arguments as launched and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (tail_arg0 m c),
     ((h.1 c).2 main_arg1 (Pipeline.mem_restRefs_of main_arg1 (by decide) (by decide))).trans (tail_arg1 m c)⟩, h.2⟩) (runs m ρ)

end Cert.KernelIdeal.Router

end
-- ==== Proof.Ideal.TopEight.lean ====
module

public import Idealize.ShloMosaic.PureOps
public import Idealize.ShloMosaic.Lib.SortFacts
public import Mathlib.Data.EReal.Basic

/-!
The eight greatest entries of a row, found in two ways: by a stable descending sort, and by eight rounds that each take
the greatest entry left and strike out every entry equal to it. The two agree where the eight greatest entries are
distinct and above the least element.
-/

@[expose] public section

noncomputable section

namespace Cert.Router

open Idealize.ShloMosaic

/-- The position that a stable descending sort of the row puts at place `k`. -/
def place {n : ℕ} (f : Fin n → EReal) : Fin n → Fin n := sortedFrom fun a b => decide (f b < f a)

/-- A stable insertion into a list whose order is known: each pair stays descending, equal values by rising position. -/
theorem insert_ordered {n : ℕ} (f : Fin n → EReal) (a : Fin n) (l : List (Fin n)) (ha : ∀ b ∈ l, a < b)
    (hl : l.Pairwise fun b c => f c < f b ∨ (f b = f c ∧ b < c)) :
    (insertBefore (fun a b => decide (f b < f a)) a l).Pairwise fun b c => f c < f b ∨ (f b = f c ∧ b < c) := by
  induction l with
  | nil => exact List.pairwise_singleton _ _
  | cons b l ih =>
    have hb := List.pairwise_cons.mp hl
    unfold insertBefore
    split
    · rename_i h
      refine List.pairwise_cons.mpr ⟨fun c hc => ?_, ih (fun c hc => ha c (List.mem_cons_of_mem b hc)) hb.2⟩
      rcases List.mem_cons.mp ((perm_insertBefore _ a l).mem_iff.mp hc) with rfl | hc'
      · exact .inl (of_decide_eq_true h)
      · exact hb.1 c hc'
    · rename_i h
      have hab : f b ≤ f a := not_lt.mp fun e => h (decide_eq_true e)
      refine List.pairwise_cons.mpr ⟨fun c hc => ?_, hl⟩
      have hle : f c ≤ f b := by
        rcases List.mem_cons.mp hc with rfl | hc'
        · exact le_rfl
        · rcases hb.1 c hc' with h1 | h1
          · exact h1.le
          · exact h1.1.ge
      rcases (hle.trans hab).lt_or_eq with h1 | h1
      · exact .inl h1
      · exact .inr ⟨h1.symm, ha c hc⟩

theorem sort_ordered {n : ℕ} (f : Fin n → EReal) (l : List (Fin n)) (hl : l.Pairwise (· < ·)) :
    (stableSort (fun a b => decide (f b < f a)) l).Pairwise fun b c => f c < f b ∨ (f b = f c ∧ b < c) := by
  induction l with
  | nil => exact List.Pairwise.nil
  | cons a l ih =>
    have ha := List.pairwise_cons.mp hl
    exact insert_ordered f a _ (fun b hb => ha.1 b ((perm_stableSort _ l).mem_iff.mp hb)) (ih ha.2)

/-- Of two places the earlier holds the greater entry, or an equal one from an earlier position. -/
theorem place_ordered {n : ℕ} (f : Fin n → EReal) (i j : Fin n) (hij : i < j) :
    f (place f j) < f (place f i) ∨ (f (place f i) = f (place f j) ∧ place f i < place f j) := by
  have hp := List.pairwise_iff_get.mp (sort_ordered f (List.finRange n) (List.pairwise_lt_finRange n))
  exact hp (i.cast (length_sortPositions n _).symm) (j.cast (length_sortPositions n _).symm) hij

theorem place_antitone {n : ℕ} (f : Fin n → EReal) (i j : Fin n) (hij : i ≤ j) : f (place f j) ≤ f (place f i) := by
  rcases hij.lt_or_eq with h | rfl
  · rcases place_ordered f i j h with h1 | h1
    · exact h1.le
    · exact h1.1.ge
  · exact le_rfl

/-- The greatest entry of a row. -/
def most {n : ℕ} (g : Fin n → EReal) : EReal := Finset.univ.sup g

/-- The row with every entry equal to its greatest struck out. -/
def strike {n : ℕ} (g : Fin n → EReal) : Fin n → EReal := fun e => if g e = most g then ⊥ else g e

/-- The row after `k` rounds. -/
def left {n : ℕ} (f : Fin n → EReal) : ℕ → Fin n → EReal
  | 0 => f
  | k + 1 => strike (left f k)

/-- Of the positions holding the greatest entry, the first, counted down from 63; the value is found as a maximum. -/
def first (g : Fin 64 → EReal) : EReal :=
  Finset.univ.sup fun e : Fin 64 => if g e = most g then ((((63 : ℤ) - (e.val : ℤ) : ℤ) : ℝ) : EReal) else (((-1 : ℤ) : ℝ) : EReal)

/-- The eight greatest entries are distinct and above the least element. -/
def Apart (f : Fin 64 → EReal) : Prop :=
  ∀ k : Fin 64, k.val < 7 → f (place f (k + 1)) < f (place f k) ∧ ⊥ < f (place f (k + 1))

variable {f : Fin 64 → EReal}

theorem Apart.pos (h : Apart f) (k : Fin 64) (hk : k.val < 8) : ⊥ < f (place f k) := by
  by_cases h0 : k.val = 0
  · obtain ⟨h1, h2⟩ := h 0 (by decide)
    rw [show k = 0 from Fin.ext h0]
    exact h2.trans h1
  · have hv : ((k - 1 : Fin 64)).val = k.val - 1 := by omega
    have := (h (k - 1) (by omega)).2
    rwa [show (k - 1 + 1 : Fin 64) = k from Fin.ext (by omega)] at this

theorem Apart.drop (h : Apart f) (k j : Fin 64) (hk : k.val < 7) (hj : k < j) : f (place f j) < f (place f k) := by
  refine lt_of_le_of_lt (place_antitone f (k + 1) j ?_) (h k hk).1
  rw [Fin.le_def]
  have : ((k + 1 : Fin 64)).val = k.val + 1 := by omega
  rw [this]; exact hj

/-- What is left after `k` rounds, read at a place: struck out before place `k`, untouched from there on. -/
theorem left_place (h : Apart f) (k : ℕ) (hk : k < 8) (j : Fin 64) :
    left f k (place f j) = if j.val < k then ⊥ else f (place f j) := by
  induction k generalizing j with
  | zero => rfl
  | succ k ih =>
    have ih := fun j => ih (by omega) j
    have hm : most (left f k) = f (place f ⟨k, by omega⟩) := by
      refine le_antisymm (Finset.sup_le fun e _ => ?_) ?_
      · obtain ⟨j, rfl⟩ := sortedFrom_surjective (fun a b => decide (f b < f a)) e
        change left f k (place f j) ≤ _
        rw [ih]
        split
        · exact bot_le
        · exact place_antitone f _ _ (by rw [Fin.le_def]; simp only; omega)
      · have := Finset.le_sup (f := left f k) (Finset.mem_univ (place f ⟨k, by omega⟩))
        rw [ih, if_neg (by simp)] at this
        exact this
    have hpos := h.pos ⟨k, by omega⟩ (by simp only; omega)
    change (if left f k (place f j) = most (left f k) then ⊥ else left f k (place f j)) = _
    rw [hm, ih]
    rcases lt_trichotomy j.val k with hj | hj | hj
    · rw [if_pos hj, if_neg hpos.ne, if_pos (by omega)]
    · have hj' : j = ⟨k, by omega⟩ := Fin.ext hj
      rw [hj', if_neg (show ¬ k < k by omega), if_pos rfl, if_pos (show k < k + 1 by omega)]
    · have := h.drop ⟨k, by omega⟩ j (by simp only; omega) (by rw [Fin.lt_def]; exact hj)
      rw [if_neg (show ¬ j.val < k by omega), if_neg this.ne, if_neg (by omega)]

/-- Round `k` takes the entry at place `k`. -/
theorem most_left (h : Apart f) (k : Fin 64) (hk : k.val < 8) : most (left f k.val) = f (place f k) := by
  refine le_antisymm (Finset.sup_le fun e _ => ?_) ?_
  · obtain ⟨j, rfl⟩ := sortedFrom_surjective (fun a b => decide (f b < f a)) e
    change left f k.val (place f j) ≤ _
    rw [left_place h k.val hk]
    split
    · exact bot_le
    · exact place_antitone f _ _ (by rw [Fin.le_def]; omega)
  · have := Finset.le_sup (f := left f k.val) (Finset.mem_univ (place f k))
    rw [left_place h k.val hk, if_neg (by simp)] at this
    exact this

/-- Round `k` finds the position at place `k`. -/
theorem first_left (h : Apart f) (k : Fin 64) (hk : k.val < 8) :
    first (left f k.val) = ((((63 : ℤ) - ((place f k).val : ℤ) : ℤ) : ℝ) : EReal) := by
  have hpos := h.pos k hk
  have hlt : (place f k).val < 64 := (place f k).isLt
  unfold first
  rw [most_left h k hk]
  refine le_antisymm (Finset.sup_le fun e _ => ?_) ?_
  · obtain ⟨j, rfl⟩ := sortedFrom_surjective (fun a b => decide (f b < f a)) e
    change (if left f k.val (place f j) = f (place f k) then ((((63 : ℤ) - ((place f j).val : ℤ) : ℤ) : ℝ) : EReal) else (((-1 : ℤ) : ℝ) : EReal)) ≤ _
    rw [left_place h k.val hk]
    by_cases he : (if j.val < k.val then ⊥ else f (place f j)) = f (place f k)
    · rw [if_pos he]
      refine EReal.coe_le_coe_iff.mpr (Int.cast_le.mpr ?_)
      rcases lt_trichotomy j.val k.val with hj | hj | hj
      · rw [if_pos hj] at he
        exact absurd he hpos.ne
      · rw [show j = k from Fin.ext hj]
      · rw [if_neg (by omega)] at he
        rcases place_ordered f k j (by rw [Fin.lt_def]; exact hj) with h1 | h1
        · exact absurd he h1.ne
        · have := Fin.lt_def.mp h1.2
          omega
    · rw [if_neg he]
      refine EReal.coe_le_coe_iff.mpr (Int.cast_le.mpr ?_)
      omega
  · have := Finset.le_sup (f := fun e : Fin 64 => if left f k.val e = f (place f k) then ((((63 : ℤ) - (e.val : ℤ) : ℤ) : ℝ) : EReal) else (((-1 : ℤ) : ℝ) : EReal))
      (Finset.mem_univ (place f k))
    rw [left_place h k.val hk] at this
    simpa using this

end Cert.Router

end
-- ==== Proof.Ideal.Token.lean ====
module

public import proofs.«01_k».proof.Proof.Ideal.TopEight
public import Idealize.ShloMosaic.PureOps.Ideal

@[expose] public section

noncomputable section

namespace Cert.Router

open Idealize.ShloMosaic

/-! ## What the router computes of a token -/

/-- The weights of eight values: each one's exponential past the first over the sum of all eight. -/
def weights (t : Fin 8 → EReal) (k : Fin 8) : EReal := Ideal.div (Ideal.exp (t k - t 0)) (∑ l : Fin 8, Ideal.exp (t l - t 0))

/-- A token's logits as probabilities. -/
def chances (f : Fin 64 → EReal) (e : Fin 64) : EReal := Ideal.div (Ideal.exp (f e - most f)) (∑ l : Fin 64, Ideal.exp (f l - most f))

/-- The usage of the experts turned into the balance of their load. -/
def balance (u : Fin 64 → EReal) : EReal :=
  ∑ e : Fin 64, (Ideal.div (u e) (Ideal.ofBits .f32 0x46800000#32) - Ideal.ofBits .f32 0x3C800000#32)
    * (Ideal.div (u e) (Ideal.ofBits .f32 0x46800000#32) - Ideal.ofBits .f32 0x3C800000#32)

end Cert.Router

end
-- ==== Proof.Ideal.Eight.lean ====
/- The eight rounds of a block, read at a token's row: the vectors the body computes are the rounds of `TopEight` there. -/
module

public import proofs.«01_k».proof.Proof.Ideal.Values
public import proofs.«01_k».proof.Proof.Ideal.Token
public import Idealize.ShloMosaic.Lib.Pointwise
public import Idealize.ShloMosaic.Lib.IdealHost

@[expose] public section

set_option maxRecDepth 16384

noncomputable section

namespace Cert.KernelIdeal.Router

open Cert.KernelIdeal Cert.KernelIdeal.Gen Cert.Router
open Idealize.ShloMosaic Idealize.ShloMosaic.TcCoe Idealize.SL.Sem

/-- The greatest entry of each row, as a column. -/
def roundMax (w : FVec Ideal S1024x64 .f32) : FVec Ideal S1024x1 .f32 :=
  shapeCast S1024x1 (multiReduction .maximumf [1] S1024 w 0xFF800000#32 reduces_S1024x64_S1024 (.inl rfl) rfl) shapeCasts_S1024_S1024x1
/-- Where a row holds its greatest entry. -/
def roundHit (w : FVec Ideal S1024x64 .f32) : IVec S1024x64 1 :=
  cmpf .oeq w (broadcastTo S1024x64 (roundMax w) broadcasts_S1024x1_S1024x64)
/-- The first such place of each row, counted down from 63, as a column. -/
def roundPick (w : FVec Ideal S1024x64 .f32) : FVec Ideal S1024x1 .f32 :=
  roundMax (select (roundHit w) (k0_pay9 (F := Ideal)) (broadcast S1024x64 (Scalar.ofBits .f32 0xBF800000#32)))
/-- The rows with those places struck out. -/
def roundNext (w : FVec Ideal S1024x64 .f32) : FVec Ideal S1024x64 .f32 :=
  select (roundHit w) (broadcast S1024x64 (Scalar.ofBits .f32 0xFF800000#32)) w

/-- A row of a block. -/
def row (w : FVec Ideal S1024x64 .f32) (i : Fin 1024) : Fin 64 → EReal := fun e => w (ix2 i e)

theorem ofBits_least : Ideal.ofBits .f32 0xFF800000#32 = ⊥ := by
  simp [Ideal.ofBits, Ideal.ieee]

theorem ofBits_minus_one : Ideal.ofBits .f32 0xBF800000#32 = (((-1 : ℤ) : ℝ) : EReal) := by
  simp [Ideal.ofBits, Ideal.ieee, -EReal.coe_mul, -EReal.coe_neg]; norm_num

theorem roundMax_at (w : FVec Ideal S1024x64 .f32) (i : Fin 1024) (z : Fin 1) : roundMax w (ix2 i z) = most (row w i) := by
  pointwise [roundMax]
  rw [ofBits_least]
  rfl

theorem roundNext_at (w : FVec Ideal S1024x64 .f32) (i : Fin 1024) : row (roundNext w) i = strike (row w i) := by
  funext e
  have h := roundMax_at w i 0
  pointwise [row, roundNext, roundHit, strike]
  rw [h, ofBits_least]

theorem down (e : Fin 64) : (IntOp.subi 63#32 (BitVec.ofNat 32 e.val)).toInt = (63 : ℤ) - (e.val : ℤ) := by
  revert e; decide +kernel

theorem roundPick_at (w : FVec Ideal S1024x64 .f32) (i : Fin 1024) (z : Fin 1) : roundPick w (ix2 i z) = first (row w i) := by
  rw [roundPick, roundMax_at]
  unfold first most
  congr 1
  funext e
  have h := roundMax_at w i 0
  pointwise [row, roundHit, k0_pay9]
  rw [h, ofBits_minus_one]
  rw [show (FloatOps.sitofp FTy.f32 (IntOp.subi (63#32) (BitVec.ofNat 32 e.val)) : Ideal .f32)
    = (((IntOp.subi (63#32) (BitVec.ofNat 32 e.val)).toInt : ℝ) : EReal) from rfl, down]
  rfl

/-! ## The body's vectors are the rounds -/

/-- A block after `k` rounds. -/
def work (v : Vec Ideal S1x1024x64 .f32) : ℕ → FVec Ideal S1024x64 .f32
  | 0 => k0_pay8 v
  | k + 1 => roundNext (work v k)

/-- Eight columns side by side. -/
def stack (f : ℕ → FVec Ideal S1024x1 .f32) : FVec Ideal S1024x8 .f32 := k0_pay2 (f 0) (f 1) (f 2) (f 3) (f 4) (f 5) (f 6) (f 7)

set_option maxHeartbeats 1600000 in
theorem stack_at (f : ℕ → FVec Ideal S1024x1 .f32) (i : Fin 1024) (k : Fin 8) : stack f (ix2 i k) = f k.val (ix2 i 0) := by
  pointwise [stack, k0_pay2]
  fin_vals k with hk
  all_goals (simp only [hk, Nat.reduceSub, Nat.reduceLT, ↓reduceDIte]; rfl)

theorem picks_eq (v : Vec Ideal S1x1024x64 .f32) : picks v
    = subi (broadcast S1024x8 63#32) (fptosi 32 (stack fun k => roundPick (work v k))) := rfl

theorem shares8_eq (v : Vec Ideal S1x1024x64 .f32) : shares8 v
    = k0_pay4 (roundMax (work v 0)) (roundMax (work v 1)) (roundMax (work v 2)) (roundMax (work v 3)) (roundMax (work v 4)) (roundMax (work v 5))
      (roundMax (work v 6)) (roundMax (work v 7)) := rfl

theorem used_eq (v : Vec Ideal S1x1024x64 .f32) (u : Vec Ideal S1x64 .f32) : used v u
    = k0_pay6 (work v 0) (roundMax (work v 0)) (roundMax (work v 1)) (roundMax (work v 2)) (roundMax (work v 3)) (roundMax (work v 4)) (roundMax (work v 5))
      (roundMax (work v 6)) (roundMax (work v 7)) u := rfl

/-- A token's row of logits. -/
def logits (v : Vec Ideal S1x1024x64 .f32) (i : Fin 1024) : Fin 64 → EReal := fun e => v (ix3 0 i e)

theorem work_row (v : Vec Ideal S1x1024x64 .f32) (k : ℕ) (i : Fin 1024) : row (work v k) i = left (logits v i) k := by
  induction k with
  | zero => funext e; pointwise [row, work, k0_pay8, left, logits]
  | succ k ih => rw [work, roundNext_at, ih]; rfl

variable {v : Vec Ideal S1x1024x64 .f32} {i : Fin 1024}

/-- The value taken in round `k`. -/
theorem max_at (h : Apart (logits v i)) (k : Fin 64) (hk : k.val < 8) (z : Fin 1) :
    roundMax (work v k.val) (ix2 i z) = logits v i (place (logits v i) k) := by
  rw [roundMax_at, work_row, most_left h k hk]

theorem pick_at (h : Apart (logits v i)) (k : Fin 64) (hk : k.val < 8) (z : Fin 1) :
    roundPick (work v k.val) (ix2 i z) = ((((63 : ℤ) - ((place (logits v i) k).val : ℤ) : ℤ) : ℝ) : EReal) := by
  rw [roundPick_at, work_row, first_left h k hk]

theorem truncated (p : Fin 64) : IntOp.subi 63#32 (Ideal.fptosi 32 ((((63 : ℤ) - (p.val : ℤ) : ℤ) : ℝ) : EReal)) = BitVec.ofNat 32 p.val := by
  have e : Ideal.fptosi 32 ((((63 : ℤ) - (p.val : ℤ) : ℤ) : ℝ) : EReal) = BitVec.ofInt 32 ((63 : ℤ) - (p.val : ℤ)) := by
    have hp := p.isLt
    refine congrArg (BitVec.ofInt 32) ?_
    change max _ (min _ (if (0 : ℝ) ≤ (((63 : ℤ) - (p.val : ℤ) : ℤ) : ℝ) then ⌊(((63 : ℤ) - (p.val : ℤ) : ℤ) : ℝ)⌋ else _)) = _
    rw [if_pos (by exact_mod_cast (by omega : (0 : ℤ) ≤ (63 : ℤ) - (p.val : ℤ))), Int.floor_intCast]
    norm_num
    omega
  have r : ∀ p : Fin 64, IntOp.subi 63#32 (BitVec.ofInt 32 ((63 : ℤ) - (p.val : ℤ))) = BitVec.ofNat 32 p.val := by decide +kernel
  rw [e, r]

/-- The expert numbers of a token: the places of its eight greatest logits. -/
theorem picks_at (h : Apart (logits v i)) (k : Fin 8) : picks v (ix2 i k) = BitVec.ofNat 32 (place (logits v i) (k.castLE (by decide))).val := by
  rw [picks_eq]
  change IntOp.subi 63#32 (Ideal.fptosi 32 (stack (fun k => roundPick (work v k)) (ix2 i k))) = _
  rw [stack_at, ← truncated]
  exact congrArg (fun x => IntOp.subi 63#32 (Ideal.fptosi 32 x)) (pick_at h (k.castLE (by decide)) k.isLt 0)

/-- The values taken. -/
theorem tops_at (h : Apart (logits v i)) (k : Fin 8) :
    stack (fun k => roundMax (work v k)) (ix2 i k) = logits v i (place (logits v i) (k.castLE (by decide))) := by
  rw [stack_at]
  exact max_at h (k.castLE (by decide)) k.isLt 0

theorem shares8_at (v : Vec Ideal S1x1024x64 .f32) (i : Fin 1024) (k : Fin 8) :
    shares8 v (ix2 i k) = weights (fun k => stack (fun k => roundMax (work v k)) (ix2 i k)) k := by
  rw [shares8_eq]
  unfold weights stack
  pointwise [k0_pay4]

theorem added_at (w : FVec Ideal S1024x64 .f32) (a0 a1 a2 a3 a4 a5 a6 a7 : FVec Ideal S1024x1 .f32) (u : Vec Ideal S1x64 .f32) (z : Fin 1) (e : Fin 64) :
    k0_pay6 w a0 a1 a2 a3 a4 a5 a6 a7 u (ix2 z e) = u (ix2 z e) + ∑ i : Fin 1024,
      Ideal.div (Ideal.exp (row w i e - k0_pay2 a0 a1 a2 a3 a4 a5 a6 a7 (ix2 i 0))) (∑ l : Fin 64, Ideal.exp (row w i l - k0_pay2 a0 a1 a2 a3 a4 a5 a6 a7 (ix2 i 0))) := by
  pointwise [k0_pay6, row]

theorem used_at (v : Vec Ideal S1x1024x64 .f32) (u : Vec Ideal S1x64 .f32) (z : Fin 1) (e : Fin 64) :
    used v u (ix2 z e) = u (ix2 z e) + ∑ i : Fin 1024, chances (logits v i) e := by
  have h : ∀ i : Fin 1024, stack (fun k => roundMax (work v k)) (ix2 i 0) = most (logits v i) := fun i => by
    rw [stack_at, roundMax_at, work_row]; rfl
  rw [used_eq, added_at]
  refine congrArg (_ + ·) (Finset.sum_congr rfl fun i _ => ?_)
  rw [work_row]
  change Ideal.div (Ideal.exp (_ - stack (fun k => roundMax (work v k)) (ix2 i 0))) (∑ l : Fin 64, Ideal.exp (_ - stack (fun k => roundMax (work v k)) (ix2 i 0))) = _
  rw [h]
  rfl

theorem balance_at (u : Vec Ideal S1x64 .f32) (j : S1x1.Idx) : k0_pay7 u j = balance fun e => u (ix2 0 e) := by
  pointwise [k0_pay7, balance]
  rw [Fin.sum_univ_one]

theorem zeros_at (j : S1x64.Idx) : k0_pay5 (F := Ideal) j = 0 := by
  pointwise [k0_pay5]

theorem product_at (x : Vec Ideal S1x1024x4096 .f32) (w : Vec Ideal S4096x64 .f32) (z : Fin 1) (i : Fin 1024) (e : Fin 64) :
    k0_pay1 x w (ix3 z i e) = ∑ d : Fin 4096, x (ix3 0 i d) * w (ix2 d e) := by
  pointwise [k0_pay1]

end Cert.KernelIdeal.Router

end
-- ==== Proof.Ref.Reading.lean ====
/- The reference's results and the precondition, read at a token: its row of logits sorted, weighted and averaged. -/
module

public import proofs.«01_k».proof.Proof.Gen.ReferenceIdeal.Read
public import proofs.«01_k».proof.Proof.Gen.Pre_top_eight_apart
public import proofs.«01_k».proof.Proof.Ideal.Token
public import Idealize.ShloMosaic.Lib.Pointwise
public import Idealize.ShloMosaic.Lib.IdealHost

@[expose] public section

set_option maxRecDepth 16384

noncomputable section

namespace Cert.ReferenceIdeal.Router

open Cert.ReferenceIdeal Cert.ReferenceIdeal.Gen Cert.ReferenceIdeal.Read Cert.Router
open Idealize.ShloMosaic Idealize.ShloMosaic.TcCoe Idealize.SL.Sem

variable (x : FVec Ideal S4x4096x4096 .f32) (w : FVec Ideal S64x4096 .f32)

/-- A token's row of logits. -/
def scores (b : Fin 4) (s : Fin 4096) : Fin 64 → EReal := fun e => ∑ d : Fin 4096, x (ix3 b s d) * w (ix2 e d)

theorem along_at (b : Fin 4) (s : Fin 4096) (e : Fin 64) (k : Fin 64) :
    Shape.Idx.along (s := S4x4096x64) (ix3 b s e) 2 k = ix3 b s k := by
  funext a
  fin_cases a <;> rfl

theorem before_eq (u v : EReal) : ((FloatOps.cmpfTotal (F := Ideal) (φ := .f32) .gt u v) == 1#1) = decide (v < u) := by
  change (BitVec.ofBool (decide (v < u)) == 1#1) = decide (v < u)
  by_cases h : v < u <;> simp [h]

/-- A row's sort: the places of its entries in descending order. -/
theorem sort_row (y : FVec Ideal S4x4096x64 .f32) (b : Fin 4) (s : Fin 4096) (e : Fin 64) :
    sortedFrom (fun k k' : Fin 64 => (FloatOps.cmpfTotal (F := Ideal) (φ := .f32) .gt (y (Shape.Idx.along (s := S4x4096x64) (ix3 b s e) 2 k))
      (y (Shape.Idx.along (s := S4x4096x64) (ix3 b s e) 2 k'))) == 1#1) = place (fun e => y (ix3 b s e)) := by
  unfold place
  congr 1
  funext k k'
  rw [before_eq, along_at, along_at]

theorem sort_first (y : FVec Ideal S4x4096x64 .f32) (z : IVec S4x4096x64 32) (b : Fin 4) (s : Fin 4096) (e : Fin 64) :
    (Host.sort2 S4x4096x64 2 (fun l r => FloatOps.cmpfTotal (F := Ideal) (φ := .f32) .gt l.1 r.1) y z).1 (ix3 b s e)
      = y (ix3 b s (place (fun e => y (ix3 b s e)) e)) := by
  unfold Host.sort2
  rw [dif_pos (by decide), ← sort_row y b s e]
  exact congrArg y (along_at b s e _)

theorem sort_second (y : FVec Ideal S4x4096x64 .f32) (z : IVec S4x4096x64 32) (b : Fin 4) (s : Fin 4096) (e : Fin 64) :
    (Host.sort2 S4x4096x64 2 (fun l r => FloatOps.cmpfTotal (F := Ideal) (φ := .f32) .gt l.1 r.1) y z).2 (ix3 b s e)
      = z (ix3 b s (place (fun e => y (ix3 b s e)) e)) := by
  unfold Host.sort2
  rw [dif_pos (by decide), ← sort_row y b s e]
  exact congrArg z (along_at b s e _)

/-- The sort behind a top list of eight, at a row: the values in descending order. -/
theorem top_value (y : FVec Ideal S4x4096x64 .f32) (h : S4x4096x64.Slices (fun _ => 0) S4x4096x8) (b : Fin 4) (s : Fin 4096) (k : Fin 8) :
    (Host.topK S4x4096x8 2 (FloatOps.cmpfTotal .gt) y h).1 (ix3 b s k)
      = y (ix3 b s (place (fun e => y (ix3 b s e)) (k.castLE (by decide)))) := by
  unfold Host.topK
  pointwise []
  exact sort_first y _ b s (k.castLE (by decide))

/-- And where they stood. -/
theorem top_place (y : FVec Ideal S4x4096x64 .f32) (h : S4x4096x64.Slices (fun _ => 0) S4x4096x8) (b : Fin 4) (s : Fin 4096) (k : Fin 8) :
    (Host.topK S4x4096x8 2 (FloatOps.cmpfTotal .gt) y h).2 (ix3 b s k)
      = BitVec.ofNat 32 (place (fun e => y (ix3 b s e)) (k.castLE (by decide))).val := by
  unfold Host.topK
  pointwise []
  exact sort_second y _ b s (k.castLE (by decide))

theorem scores_at (b : Fin 4) (s : Fin 4096) (e : Fin 64) : val_main_v0 (F := Ideal) x w (ix3 b s e) = scores x w b s e := by
  pointwise [val_main_v0, scores]

theorem scores_row (b : Fin 4) (s : Fin 4096) : (fun e => val_main_v0 (F := Ideal) x w (ix3 b s e)) = scores x w b s :=
  funext fun e => scores_at x w b s e

/-- The eight greatest logits of a token, in descending order. -/
def tops (b : Fin 4) (s : Fin 4096) (k : Fin 8) : EReal := scores x w b s (place (scores x w b s) (k.castLE (by decide)))

theorem values_at (b : Fin 4) (s : Fin 4096) (k : Fin 8) : val_main_values (F := Ideal) x w (ix3 b s k) = tops x w b s k := by
  rw [val_main_values, top_value, scores_row, scores_at]
  rfl

theorem indices_at (b : Fin 4) (s : Fin 4096) (k : Fin 8) : val_main_indices (F := Ideal) x w (ix3 b s k)
    = BitVec.ofNat 32 (place (scores x w b s) (k.castLE (by decide))).val := by
  rw [val_main_indices, top_place, scores_row]

theorem least_bits : Ideal.ofBits .f32 0xFF800000#32 = ⊥ := by
  simp [Ideal.ofBits, Ideal.ieee]

/-- The greatest of the eight is the first. -/
theorem tops_most (b : Fin 4) (s : Fin 4096) : Finset.univ.fold max ⊥ (tops x w b s) = tops x w b s 0 := by
  change most (tops x w b s) = _
  refine le_antisymm (Finset.sup_le fun k _ => place_antitone _ _ _ (by rw [Fin.le_def]; exact Nat.zero_le _)) ?_
  exact Finset.le_sup (f := tops x w b s) (Finset.mem_univ 0)

theorem shares_at (b : Fin 4) (s : Fin 4096) (k : Fin 8) : val_main_v11 (F := Ideal) x w (ix3 b s k) = weights (tops x w b s) k := by
  have h : (fun k => val_main_values (F := Ideal) x w (ix3 b s k)) = tops x w b s := funext fun k => values_at x w b s k
  pointwise [val_main_v11, val_main_v7, val_main_v10, val_main_v9, val_main_v8, val_main_v6, val_main_v5, val_main_v4, val_main_v3, val_main_v2, val_main_v1, val_main_cst_1, val_main_cst_0, val_main_cst]
  rw [least_bits, h, tops_most, max_eq_right bot_le]
  simp only [values_at]
  rfl

theorem chances_at (b : Fin 4) (s : Fin 4096) (e : Fin 64) : val_main_v22 (F := Ideal) x w (ix3 b s e) = chances (scores x w b s) e := by
  have h : (fun e => val_main_v0 (F := Ideal) x w (ix3 b s e)) = scores x w b s := scores_row x w b s
  pointwise [val_main_v22, val_main_v21, val_main_v20, val_main_v19, val_main_v18, val_main_v17, val_main_v16, val_main_v15, val_main_v14, val_main_v13, val_main_v12, val_main_cst_2, val_main_cst_3, val_main_cst_4]
  rw [least_bits, h, max_eq_right bot_le]
  simp only [scores_at]
  rfl

/-- A sum over the two token axes, at an expert. -/
theorem token_sum (h : S4x4096x64.ReducesTo [0, 1] S64) (y : S4x4096x64.Idx → EReal) (c : EReal) (e : Fin 64) :
    Ideal.hostReduceAdd h y c (ix1 e) = c + ∑ b : Fin 4, ∑ s : Fin 4096, y (ix3 b s e) := by
  have hd : ∀ (b : Fin 4) (s : Fin 4096) (l : Fin 64), h.drop (ix3 b s l) = ix1 e ↔ l = e := fun b s l => by
    constructor
    · intro q; exact Fin.ext (congrArg Fin.val (congrFun q 0))
    · rintro rfl; funext a; exact Fin.ext (by fin_cases a; rfl)
  unfold Ideal.hostReduceAdd
  rw [Finset.sum_filter, sum_idx3]
  refine congrArg (c + ·) (Finset.sum_congr rfl fun b _ => Finset.sum_congr rfl fun s _ => ?_)
  simp only [hd]
  rw [Finset.sum_ite_eq' Finset.univ e]
  simp

theorem balance_at (j : S_.Idx) : val_main_v29 (F := Ideal) x w j
    = balance fun e => ∑ b : Fin 4, ∑ s : Fin 4096, chances (scores x w b s) e := by
  pointwise [val_main_v29, val_main_v28, val_main_v27, val_main_v26, val_main_v25, val_main_v24, val_main_cst_8, val_main_cst_7, val_main_cst_6, val_main_v23, val_main_cst_5]
  simp only [token_sum, chances_at, zero_add]
  rfl

/-- The precondition, read at a token. -/
theorem apart_of (h : Cert.Pre_top_eight_apart.fn (F := Ideal) x w = fun _ => 1#1) (b : Fin 4) (s : Fin 4096) : Apart (scores x w b s) := by
  intro k hk
  have hn : ((k + 1 : Fin 64)).val = 1 + k.val := by omega
  have e : IntOp.andi
      (FloatOps.cmpf (F := Ideal) (φ := .f32) .ogt (val_main_values (F := Ideal) x w (ix3 b s (⟨k.val, by omega⟩ : Fin 8))) (val_main_values (F := Ideal) x w (ix3 b s (⟨1 + k.val, by omega⟩ : Fin 8))))
      (FloatOps.cmpf (F := Ideal) (φ := .f32) .ogt (val_main_values (F := Ideal) x w (ix3 b s (⟨1 + k.val, by omega⟩ : Fin 8))) (Ideal.ofBits .f32 0xFF800000#32)) = 1#1 := by
    refine Eq.trans ?_ (congrFun h (ix3 b s (⟨k.val, hk⟩ : Fin 7)))
    pointwise [Cert.Pre_top_eight_apart.fn]
    rfl
  rw [values_at, values_at, least_bits] at e
  have both : ∀ p q : BitVec 1, IntOp.andi p q = 1#1 → p = 1#1 ∧ q = 1#1 := by decide
  have bit : ∀ p : Bool, BitVec.ofBool p = 1#1 → p = true := by decide
  obtain ⟨e1, e2⟩ := both _ _ e
  have e1 := of_decide_eq_true (bit _ e1)
  have e2 := of_decide_eq_true (bit _ e2)
  have en : (k + 1 : Fin 64) = (⟨1 + k.val, by omega⟩ : Fin 64) := Fin.ext hn
  rw [en]
  exact ⟨e1, e2⟩

end Cert.ReferenceIdeal.Router

end
-- ==== Proof.Ideal.Result.lean ====
/- The arrays the kernel leaves: what the blocks of each window hold after the last point, and the host's reshapes of them. -/
module

public import proofs.«01_k».proof.Proof.Ideal.Run
public import proofs.«01_k».proof.Proof.Ideal.Eight
public import Idealize.ShloMosaic.Lib.Pipeline.ValueKit
public import Idealize.ShloMosaic.Lib.Claim
public import Idealize.ShloMosaic.Lib.ValueLayout
public import proofs.«01_k».proof.Proof.Ref.Reading

@[expose] public section

set_option maxRecDepth 16384

noncomputable section

namespace Cert.KernelIdeal.Router

open Cert.KernelIdeal Cert.KernelIdeal.Gen Cert.Router
open Idealize.ShloMosaic Idealize.ShloMosaic.TcCoe Idealize.SL.Sem
open Idealize.ShloMosaic.Pipeline (Dat)

variable (m : (ℓ : Loc nD τ sig) → Buf (Elt Ideal) ℓ)

/-- At point `t` the two arrays of tokens are written at block `t - 1`, and the balance at its one block. -/
theorem block_of : ∀ t : Fin cfg0.N, win0_1.index t = ![t.val - 1, 0] ∧ win0_2.index t = ![t.val - 1, 0] ∧ win0_3.index t = ![0, 0] :=
  (by decide +kernel : ∀ t : Fin grid0.N, _)

/-- The expert numbers of all tokens: row `r` is row `r % 1024` of block `r / 1024`. -/
def allPicks (c : Dev nD) : IVec S16384x8 32 :=
  fun j => picks (logitsOf m c ((j 0).val / 1024)) (ix2 (⟨(j 0).val % 1024, Nat.mod_lt _ (by decide)⟩ : Fin 1024) (j 1))

/-- The weights of all tokens, by rows alike. -/
def allShares (c : Dev nD) : FVec Ideal S16384x8 .f32 :=
  fun j => shares8 (logitsOf m c ((j 0).val / 1024)) (ix2 (⟨(j 0).val % 1024, Nat.mod_lt _ (by decide)⟩ : Fin 1024) (j 1))

/-- After the last point the array of expert numbers holds every token's. -/
theorem final_picks (c : Dev nD) : (dats m 0 c).arrAt 1 (cfgs 0).N = allPicks m c := by
  refine (dats m 0 c).arrAt_eq_of_covers 1 _ (by decide +kernel) fun t hf y => ?_
  have h1 := (flush_1 t).mp hf
  obtain ⟨hb, -, -⟩ := block_of t
  have hy : (y 0).val < 1024 := (y 0).isLt
  have e0 : (((win0_1.blk t).view.emb y) 0).val = (t.val - 1) * 1024 + (y 0).val := by
    blk_simp; rw [hb]; rfl
  have e1 : (((win0_1.blk t).view.emb y) 1).val = (y 1).val := by
    blk_simp; rw [hb]; show 0 * 8 + _ = _; omega
  blk_simp
  rw [after_1]
  show _ = picks (logitsOf m c _) _
  rw [show (((win0_1.blk t).view.emb y) 0).val / 1024 = t.val - 1 by omega]
  refine congrArg (picks (logitsOf m c (t.val - 1))) (funext fun a => Fin.ext ?_)
  match a with
  | ⟨0, _⟩ => show (y 0).val = (((win0_1.blk t).view.emb y) 0).val % 1024; omega
  | ⟨1, _⟩ => exact e1.symm

/-- After the last point the array of weights holds every token's. -/
theorem final_shares (c : Dev nD) : (dats m 0 c).arrAt 2 (cfgs 0).N = allShares m c := by
  refine (dats m 0 c).arrAt_eq_of_covers 2 _ (by decide +kernel) fun t hf y => ?_
  have h1 := (flush_2 t).mp hf
  obtain ⟨-, hb, -⟩ := block_of t
  have hy : (y 0).val < 1024 := (y 0).isLt
  have e0 : (((win0_2.blk t).view.emb y) 0).val = (t.val - 1) * 1024 + (y 0).val := by
    blk_simp; rw [hb]; rfl
  have e1 : (((win0_2.blk t).view.emb y) 1).val = (y 1).val := by
    blk_simp; rw [hb]; show 0 * 8 + _ = _; omega
  blk_simp
  rw [after_2]
  show _ = shares8 (logitsOf m c _) _
  rw [show (((win0_2.blk t).view.emb y) 0).val / 1024 = t.val - 1 by omega]
  refine congrArg (shares8 (logitsOf m c (t.val - 1))) (funext fun a => Fin.ext ?_)
  match a with
  | ⟨0, _⟩ => show (y 0).val = (((win0_2.blk t).view.emb y) 0).val % 1024; omega
  | ⟨1, _⟩ => exact e1.symm

/-- After the last point the balance's one entry is the balance of all usage sums. -/
theorem final_balance (c : Dev nD) : (dats m 0 c).arrAt 3 (cfgs 0).N = k0_pay7 (usage m c 16) := by
  refine (dats m 0 c).arrAt_eq_of_covers 3 _ (by decide +kernel) fun t hf y => ?_
  obtain ⟨-, -, hb⟩ := block_of t
  have hy0 : (y 0).val < 1 := (y 0).isLt
  have hy1 : (y 1).val < 1 := (y 1).isLt
  have e0 : (((win0_3.blk t).view.emb y) 0).val = (y 0).val := by
    blk_simp; rw [hb]; rfl
  have e1 : (((win0_3.blk t).view.emb y) 1).val = (y 1).val := by
    blk_simp; rw [hb]; rfl
  blk_simp
  rw [after_3]
  refine congrArg (k0_pay7 (usage m c 16)) (funext fun a => Fin.ext ?_)
  match a with
  | ⟨0, _⟩ => exact e0.symm
  | ⟨1, _⟩ => exact e1.symm

/-! ## The host's reshapes -/

/-- The first result is the array of expert numbers at the tokens' two axes. -/
theorem tail_v3 (c : Dev nD) : Pipeline.afterTail₀ cfgs (dats m) 0 (V0 m) [hostOps1] c main_v3
    = shapeCast S4x4096x8 ((dats m 0 c).arrAt 1 (cfgs 0).N) shapeCasts_S16384x8_S4x4096x8 := by
  unfold Pipeline.afterTail₀
  rw [show ([hostOps1 (F := Ideal)].flatten) = hostOps1 from List.append_nil _]
  unfold hostOps1
  after_results
  exact congrArg (fun z => shapeCast S4x4096x8 z shapeCasts_S16384x8_S4x4096x8)
    (Pipeline.withArrays_arr spec0 (by decide +kernel) c (V0 m c) (fun w => (dats m 0 c).arrAt w (cfgs 0).N) 1)

/-- The second is the array of weights alike. -/
theorem tail_v4 (c : Dev nD) : Pipeline.afterTail₀ cfgs (dats m) 0 (V0 m) [hostOps1] c main_v4
    = shapeCast S4x4096x8 ((dats m 0 c).arrAt 2 (cfgs 0).N) shapeCasts_S16384x8_S4x4096x8 := by
  unfold Pipeline.afterTail₀
  rw [show ([hostOps1 (F := Ideal)].flatten) = hostOps1 from List.append_nil _]
  unfold hostOps1
  after_results
  exact congrArg (fun z => shapeCast S4x4096x8 z shapeCasts_S16384x8_S4x4096x8)
    (Pipeline.withArrays_arr spec0 (by decide +kernel) c (V0 m c) (fun w => (dats m 0 c).arrAt w (cfgs 0).N) 2)

/-- The third is the balance's one entry. -/
theorem tail_v5 (c : Dev nD) : Pipeline.afterTail₀ cfgs (dats m) 0 (V0 m) [hostOps1] c main_v5
    = shapeCast S_ ((dats m 0 c).arrAt 3 (cfgs 0).N) shapeCasts_S1x1_S_ := by
  unfold Pipeline.afterTail₀
  rw [show ([hostOps1 (F := Ideal)].flatten) = hostOps1 from List.append_nil _]
  unfold hostOps1
  after_results
  exact congrArg (fun z => shapeCast S_ z shapeCasts_S1x1_S_)
    (Pipeline.withArrays_arr spec0 (by decide +kernel) c (V0 m c) (fun w => (dats m 0 c).arrAt w (cfgs 0).N) 3)

/-! ## What the region reads of the arguments -/

/-- Row `i` of block `b` is row `1024 * b + i` of all tokens. -/
theorem token_at (c : Dev nD) (b : Fin 16) (i : Fin 1024) (d : Fin 4096) (W) :
    tokens (F := Ideal) c W b (ix3 0 i d) = W (ix2 (⟨1024 * b.val + i.val, by omega⟩ : Fin 16384) d) := by
  show W _ = W _
  have hs : (Shape.reshapeEquiv squeezes_S1x1024x4096_S1024x4096.numel_eq).symm (ix3 (0 : Fin 1) i d) = ix2 i d := by
    rw [Equiv.symm_apply_eq]; exact (ValueIdx.reshapeEquiv_ix2_1ab _ i d).symm
  rw [hs]
  refine congrArg W (funext fun a => Fin.ext ?_)
  match a with
  | ⟨0, _⟩ => show 1024 * b.val + 1 * i.val = 1024 * b.val + i.val; omega
  | ⟨1, _⟩ => show 0 + 1 * d.val = d.val; omega

/-- Row `r` of the region's tokens is the token at `r / 4096`, `r % 4096` of the argument. -/
theorem entry_v0 (c : Dev nD) (r : Fin 16384) (d : Fin 4096) :
    V m c main_v0 (ix2 r d) = m ((c : Thread nD τ).loc main_arg0) (ix3 (⟨r.val / 4096, by omega⟩ : Fin 4) (⟨r.val % 4096, by omega⟩ : Fin 4096) d) := by
  show StableHlo.after ([hostOps0 (F := Ideal)].flatten) _ _ _ = _
  rw [show ([hostOps0 (F := Ideal)].flatten) = hostOps0 from List.append_nil _]
  unfold hostOps0
  after_results
  pointwise

/-- The region reads the weights transposed. -/
theorem entry_v1 (c : Dev nD) (d : Fin 4096) (e : Fin 64) :
    V m c main_v1 (ix2 d e) = m ((c : Thread nD τ).loc main_arg1) (ix2 e d) := by
  show StableHlo.after ([hostOps0 (F := Ideal)].flatten) _ _ _ = _
  rw [show ([hostOps0 (F := Ideal)].flatten) = hostOps0 from List.append_nil _]
  unfold hostOps0
  after_results
  pointwise

/-! ## The scores of a token -/

open Cert.ReferenceIdeal.Router (scores tops indices_at shares_at apart_of)

/-- The tokens as launched. -/
abbrev xs (c : Dev nD) : FVec Ideal S4x4096x4096 .f32 := m ((c : Thread nD τ).loc main_arg0)
/-- The weights as launched. -/
abbrev ws (c : Dev nD) : FVec Ideal S64x4096 .f32 := m ((c : Thread nD τ).loc main_arg1)

/-- The scores of the token in row `r` of all rows. -/
def rowScores (c : Dev nD) (r : Fin 16384) : Fin 64 → EReal :=
  scores (xs m c) (ws m c) (⟨r.val / 4096, by omega⟩ : Fin 4) (⟨r.val % 4096, by omega⟩ : Fin 4096)

/-- Row `4096 * b + s` is the token at `b`, `s`. -/
theorem rowScores_at (c : Dev nD) (b : Fin 4) (s : Fin 4096) (r : Fin 16384) (h : r.val = b.val * 4096 + s.val) :
    rowScores m c r = scores (xs m c) (ws m c) b s := by
  unfold rowScores
  congr 1
  · exact Fin.ext (show r.val / 4096 = b.val by omega)
  · exact Fin.ext (show r.val % 4096 = s.val by omega)

/-- Row `i` of block `n` carries the scores of the token in row `1024 * n + i`. -/
theorem logits_eq (c : Dev nD) (n : ℕ) (hn : n < 16) (i : Fin 1024) :
    logits (logitsOf m c n) i = rowScores m c ⟨1024 * n + i.val, by omega⟩ := by
  funext e
  show logitsOf m c n (ix3 0 i e) = ∑ d : Fin 4096, xs m c (ix3 _ _ d) * ws m c (ix2 e d)
  unfold logitsOf
  rw [product_at]
  refine Finset.sum_congr rfl fun d _ => ?_
  rw [token_at]
  unfold wts
  rw [entry_v1, entry_v0]
  have hb : (Ring.bk 16 n).val = n := Ring.bk_val hn
  simp only [hb]

/-! ## The three results -/

/-- The usage sums of the first `n` blocks, token by token. -/
theorem usage_sum (c : Dev nD) (e : Fin 64) : ∀ n, usage m c n (ix2 0 e) = ∑ p : Fin n, ∑ i : Fin 1024, chances (logits (logitsOf m c p.val) i) e
  | 0 => by
    rw [Fin.sum_univ_zero]
    exact zeros_at _
  | n + 1 => by
    rw [Fin.sum_univ_castSucc]
    exact (used_at _ _ _ _).trans (congrArg (· + _) (usage_sum c e n))

/-- The usage sums of all blocks are those of all tokens. -/
theorem usage_all (c : Dev nD) (e : Fin 64) :
    usage m c 16 (ix2 0 e) = ∑ b : Fin 4, ∑ s : Fin 4096, chances (scores (xs m c) (ws m c) b s) e := by
  rw [usage_sum]
  trans ∑ r : Fin 16384, chances (rowScores m c r) e
  · refine Eq.trans ?_ (Fin.sum_univ_tiles 16 1024 rfl _).symm
    refine Finset.sum_congr rfl fun p _ => Finset.sum_congr rfl fun i _ => ?_
    rw [logits_eq m c p.val p.isLt i]
    exact congrArg (fun r => chances (rowScores m c r) e) (Fin.ext (show 1024 * p.val + i.val = p.val * 1024 + i.val by omega))
  · refine Eq.trans (Fin.sum_univ_tiles 4 4096 rfl _) ?_
    refine Finset.sum_congr rfl fun b _ => Finset.sum_congr rfl fun s _ => ?_
    rw [rowScores_at m c b s _ rfl]

/-- Row `r % 1024` of block `r / 1024` is row `r`. -/
theorem logits_row (c : Dev nD) (r : Fin 16384) :
    logits (logitsOf m c (r.val / 1024)) (⟨r.val % 1024, Nat.mod_lt _ (by decide)⟩ : Fin 1024) = rowScores m c r := by
  rw [logits_eq m c _ (by omega)]
  exact congrArg (rowScores m c) (Fin.ext (show 1024 * (r.val / 1024) + r.val % 1024 = r.val by omega))

/-- The expert numbers are the reference's. -/
theorem numbers_eq (c : Dev nD) (h : Cert.Pre_top_eight_apart.fn (F := Ideal) (xs m c) (ws m c) = fun _ => 1#1) :
    shapeCast S4x4096x8 (allPicks m c) shapeCasts_S16384x8_S4x4096x8 = Cert.ReferenceIdeal.Read.val_main_indices (F := Ideal) (xs m c) (ws m c) := by
  funext j
  idx_vars j
  obtain ⟨b, s, k, rfl, rfl, rfl⟩ : ∃ b s k, b = j0 ∧ s = j1 ∧ k = j2 := ⟨_, _, _, rfl, rfl, rfl⟩
  rw [indices_at]
  pointwise
  have hs := (logits_row m c ⟨b.val * 4096 + s.val, by omega⟩).trans (rowScores_at m c b s _ rfl)
  have ha := apart_of (xs m c) (ws m c) h b s
  rw [← hs] at ha ⊢
  exact picks_at ha k

/-- The weights are the reference's. -/
theorem shares_eq (c : Dev nD) (h : Cert.Pre_top_eight_apart.fn (F := Ideal) (xs m c) (ws m c) = fun _ => 1#1) :
    shapeCast S4x4096x8 (allShares m c) shapeCasts_S16384x8_S4x4096x8 = Cert.ReferenceIdeal.Read.val_main_v11 (F := Ideal) (xs m c) (ws m c) := by
  funext j
  idx_vars j
  obtain ⟨b, s, k, rfl, rfl, rfl⟩ : ∃ b s k, b = j0 ∧ s = j1 ∧ k = j2 := ⟨_, _, _, rfl, rfl, rfl⟩
  rw [shares_at]
  pointwise
  have hs := (logits_row m c ⟨b.val * 4096 + s.val, by omega⟩).trans (rowScores_at m c b s _ rfl)
  have ha := apart_of (xs m c) (ws m c) h b s
  unfold tops
  rw [← hs] at ha ⊢
  refine (shares8_at _ _ k).trans (congrArg (fun t => weights t k) (funext fun l => ?_))
  exact tops_at ha l

/-- The balance is the reference's. -/
theorem balance_eq (c : Dev nD) :
    shapeCast S_ (k0_pay7 (usage m c 16)) shapeCasts_S1x1_S_ = Cert.ReferenceIdeal.Read.val_main_v29 (F := Ideal) (xs m c) (ws m c) := by
  funext j
  rw [Cert.ReferenceIdeal.Router.balance_at]
  refine (Cert.KernelIdeal.Router.balance_at (usage m c 16) _).trans (congrArg balance (funext fun e => ?_))
  exact usage_all m c e

variable (ρ : Dev nD → PrngReg)

/-- Tokens with their eight highest scores apart: the kernel ends with the reference's three results. -/
theorem results (h : ∀ c : Dev nD, Cert.Pre_top_eight_apart.fn (F := Ideal) (xs m c) (ws m c) = fun _ => 1#1) :
    θ_run defs (onTc (τ := τ) (main (F := Ideal))) ⟨m, fun _ => 0, ρ⟩ (fun r => ∀ c : Dev nD,
      r.2.mem ((c : Thread nD τ).loc main_v3) = Cert.ReferenceIdeal.Read.val_main_indices (F := Ideal) (xs m c) (ws m c)
      ∧ r.2.mem ((c : Thread nD τ).loc main_v4) = Cert.ReferenceIdeal.Read.val_main_v11 (F := Ideal) (xs m c) (ws m c)
      ∧ r.2.mem ((c : Thread nD τ).loc main_v5) = Cert.ReferenceIdeal.Read.val_main_v29 (F := Ideal) (xs m c) (ws m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ hr c =>
    ⟨((hr.1 c).2 main_v3 (Pipeline.mem_restRefs_of main_v3 (by decide) (by decide))).trans ((tail_v3 m c).trans (by rw [final_picks]; exact numbers_eq m c (h c))),
     ((hr.1 c).2 main_v4 (Pipeline.mem_restRefs_of main_v4 (by decide) (by decide))).trans ((tail_v4 m c).trans (by rw [final_shares]; exact shares_eq m c (h c))),
     ((hr.1 c).2 main_v5 (Pipeline.mem_restRefs_of main_v5 (by decide) (by decide))).trans ((tail_v5 m c).trans (by rw [final_balance]; exact balance_eq m c)),
     ((hr.1 c).2 main_arg0 (Pipeline.mem_restRefs_of main_arg0 (by decide) (by decide))).trans (tail_arg0 m c),
     ((hr.1 c).2 main_arg1 (Pipeline.mem_restRefs_of main_arg1 (by decide) (by decide))).trans (tail_arg1 m c)⟩) (runs m ρ)

end Cert.KernelIdeal.Router

end
-- ==== Proof.lean ====
/- The proof of the certificate's claim: the frames of the three programs, the idealization, and the equality of the
   kernel's and the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_top_eight_apart
public import proofs.«01_k».proof.Proof.Ideal.Run
public import proofs.«01_k».proof.Proof.Bits.Run
public import proofs.«01_k».proof.Proof.Ideal.Result

@[expose] public section

noncomputable section

namespace Cert.Proof

open Idealize.ShloMosaic Idealize.SL.Sem

/-- The kernel's frame. -/
theorem frame_kernel : Cert.quiescent_Kernel := fun m ρ _ => Cert.Kernel.Router.frame_holds m ρ
/-- The frame of the kernel over the extended reals. -/
theorem frame_ideal : Cert.quiescent_KernelIdeal := fun m ρ _ => Cert.KernelIdeal.Router.frame_holds m ρ
/-- The reference's frame: no operation writes an argument, and it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference's results, of the same arguments, are the kernel's. -/
theorem same_results : Cert.algebraic_KernelIdeal_ReferenceIdeal_pre_top_eight_apart := by
  intro m g m' g' hpre hagree
  refine ⟨fun c => Cert.ReferenceIdeal.Read.val_main_indices (F := Ideal) (Cert.KernelIdeal.Router.xs m c) (Cert.KernelIdeal.Router.ws m c),
    fun c => Cert.ReferenceIdeal.Read.val_main_v11 (F := Ideal) (Cert.KernelIdeal.Router.xs m c) (Cert.KernelIdeal.Router.ws m c),
    fun c => Cert.ReferenceIdeal.Read.val_main_v29 (F := Ideal) (Cert.KernelIdeal.Router.xs m c) (Cert.KernelIdeal.Router.ws m c),
    Cert.KernelIdeal.Router.results m g hpre, ?_⟩
  refine (θ_run Cert.ReferenceIdeal.defs _ _).mono (fun r h c => ?_) (Cert.ReferenceIdeal.Value.run (F := Ideal) m' g')
  obtain ⟨h0, h1, h2, k0, k1⟩ := h c
  obtain ⟨e0, e1⟩ := hagree c
  refine ⟨h0.trans ?_, h1.trans ?_, h2.trans ?_, k0, k1⟩
  · rw [e0, e1]; exact Cert.ReferenceIdeal.Read.val_main_indices_eq _ _
  · rw [e0, e1]; exact Cert.ReferenceIdeal.Read.val_main_v11_eq _ _
  · rw [e0, e1]; exact Cert.ReferenceIdeal.Read.val_main_v29_eq _ _

/-- All claims together. -/
theorem claim : Cert.Claim := ⟨Cert.Kernel.Gen.facts, Cert.KernelIdeal.Gen.facts, Cert.ReferenceIdeal.Gen.facts, Cert.Pre_top_eight_apart.Gen.facts,
  frame_kernel, frame_ideal, fun m ρ _ => frame_ideal m ρ trivial, frame_reference, fun m ρ _ => frame_reference m ρ trivial, trivial, same_results⟩

end Cert.Proof

end
